-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 1536]⟩ ⟨2, ![768, 12288]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1536, 768]⟩ ⟨2, ![12288, 768]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x768 : Shape := ⟨2, ![768, 768]⟩
abbrev S768x1536 : Shape := ⟨2, ![768, 1536]⟩
abbrev S1536x768 : Shape := ⟨2, ![1536, 768]⟩
abbrev S384x768 : Shape := ⟨2, ![384, 768]⟩
abbrev S3x192x768 : Shape := ⟨3, ![3, 192, 768]⟩
abbrev S3x96x768 : Shape := ⟨3, ![3, 96, 768]⟩
abbrev S3x48x768 : Shape := ⟨3, ![3, 48, 768]⟩
abbrev S18 : Shape := ⟨1, ![18]⟩
abbrev S_ : Shape := ⟨0, ![]⟩
abbrev S192x768 : Shape := ⟨2, ![192, 768]⟩
abbrev S192x1536 : Shape := ⟨2, ![192, 1536]⟩
abbrev S1x192x768 : Shape := ⟨3, ![1, 192, 768]⟩
abbrev S1 : Shape := ⟨1, ![1]⟩
abbrev S128x768 : Shape := ⟨2, ![128, 768]⟩
abbrev S128x1536 : Shape := ⟨2, ![128, 1536]⟩
abbrev S1x128x768 : Shape := ⟨3, ![1, 128, 768]⟩
abbrev S64x768 : Shape := ⟨2, ![64, 768]⟩
abbrev S64x1536 : Shape := ⟨2, ![64, 1536]⟩
abbrev S1x64x768 : Shape := ⟨3, ![1, 64, 768]⟩
abbrev S96x768 : Shape := ⟨2, ![96, 768]⟩
abbrev S1x96x768 : Shape := ⟨3, ![1, 96, 768]⟩
abbrev S32x768 : Shape := ⟨2, ![32, 768]⟩
abbrev S1x32x768 : Shape := ⟨3, ![1, 32, 768]⟩
abbrev S48x768 : Shape := ⟨2, ![48, 768]⟩
abbrev S1x48x768 : Shape := ⟨3, ![1, 48, 768]⟩
abbrev S16x768 : Shape := ⟨2, ![16, 768]⟩
abbrev S1x16x768 : Shape := ⟨3, ![1, 16, 768]⟩

abbrev nBuf : Space → Nat
  | .hbm => 4
  | .vmem => 15
  | .smem => 0
  | _ => 0

abbrev bufTy : (tb : Table) → Fin (tcTables nBuf tb) → BufTy
  | .hbm, ⟨0, _⟩ => ⟨S768x768, .f32⟩
  | .hbm, ⟨1, _⟩ => ⟨S768x1536, .f32⟩
  | .hbm, ⟨2, _⟩ => ⟨S1536x768, .f32⟩
  | .hbm, ⟨3, _⟩ => ⟨S768x768, .f32⟩
  | .local _ .vmem, ⟨0, _⟩ => ⟨S768x768, .f32⟩
  | .local _ .vmem, ⟨1, _⟩ => ⟨S768x1536, .f32⟩
  | .local _ .vmem, ⟨2, _⟩ => ⟨S1536x768, .f32⟩
  | .local _ .vmem, ⟨3, _⟩ => ⟨S768x768, .f32⟩
  | .local _ .vmem, ⟨4, _⟩ => ⟨S384x768, .f32⟩
  | .local _ .vmem, ⟨5, _⟩ => ⟨S768x768, .bf16⟩
  | .local _ .vmem, ⟨6, _⟩ => ⟨S3x192x768, .bf16⟩
  | .local _ .vmem, ⟨7, _⟩ => ⟨S3x96x768, .bf16⟩
  | .local _ .vmem, ⟨8, _⟩ => ⟨S3x48x768, .bf16⟩
  | .local _ .vmem, ⟨9, _⟩ => ⟨S3x192x768, .bf16⟩
  | .local _ .vmem, ⟨10, _⟩ => ⟨S3x96x768, .bf16⟩
  | .local _ .vmem, ⟨11, _⟩ => ⟨S3x48x768, .bf16⟩
  | .local _ .vmem, ⟨12, _⟩ => ⟨S768x768, .bf16⟩
  | .local _ .vmem, ⟨13, _⟩ => ⟨S768x1536, .bf16⟩
  | .local _ .vmem, ⟨14, _⟩ => ⟨S1536x768, .bf16⟩
  | _, _ => ⟨S768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v29 : BitVec 32 := Scalar.xori v2 c1_i32_16
  let c1_i32_18 : BitVec 32 := 1#32
  let v30 : BitVec 32 := Scalar.muli v29 c1_i32_18
  let v31 : BitVec 32 := Scalar.addi c0_i32 v30
  v31.toNat
def k0_dev2 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v32 : BitVec 32 := Scalar.xori v2 c3_i32
  let c1_i32_20 : BitVec 32 := 1#32
  let v33 : BitVec 32 := Scalar.muli v32 c1_i32_20
  let v34 : BitVec 32 := Scalar.addi c0_i32_21 v33
  v34.toNat
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v35 : BitVec 32 := Scalar.xori v2 c4_i32
  let c1_i32_23 : BitVec 32 := 1#32
  let v36 : BitVec 32 := Scalar.muli v35 c1_i32_23
  let v37 : BitVec 32 := Scalar.addi c0_i32_24 v36
  v37.toNat
def k0_off1 (d0 : Dev nD) : Fin 2 → Nat :=
  let c0_i32_27 : BitVec 32 := 0#32
  let c1_i32_26 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v26 : BitVec 32 := Scalar.shrsi v2 c2_i32
  let c1_i32_15 : BitVec 32 := 1#32
  let v27 : BitVec 32 := Scalar.andi v26 c1_i32_15
  let v38 : BitVec 32 := Scalar.subi c1_i32_26 v27
  let c192_i32 : BitVec 32 := 192#32
  let v39 : BitVec 32 := Scalar.muli v38 c192_i32
  let v40 : BitVec 32 := Scalar.addi c0_i32_27 v39
  let v41 : Index := Scalar.indexCast v40
  let c0_28 : Index := 0#32
  ![v41.toNat, 0]
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_38 : BitVec 32 := 4#32
  let v54 : BitVec 32 := Scalar.xori v2 c4_i32_38
  let c1_i32_43 : BitVec 32 := 1#32
  let v55 : BitVec 32 := Scalar.muli v54 c1_i32_43
  let v56 : BitVec 32 := Scalar.addi c0_i32_44 v55
  v56.toNat
def k0_off2 (d0 : Dev nD) : Fin 2 → Nat :=
  let c384_i32 : BitVec 32 := 384#32
  let c1_i32_51 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v24 : BitVec 32 := Scalar.shrsi v2 c1_i32_13
  let c1_i32_14 : BitVec 32 := 1#32
  let v25 : BitVec 32 := Scalar.andi v24 c1_i32_14
  let v67 : BitVec 32 := Scalar.subi c1_i32_51 v25
  let c128_i32 : BitVec 32 := 128#32
  let v68 : BitVec 32 := Scalar.muli v67 c128_i32
  let v69 : BitVec 32 := Scalar.addi c384_i32 v68
  let v70 : Index := Scalar.indexCast v69
  let c0_52 : Index := 0#32
  ![v70.toNat, 0]
def k0_dev5 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_62 : BitVec 32 := 3#32
  let v83 : BitVec 32 := Scalar.xori v2 c3_i32_62
  let c1_i32_67 : BitVec 32 := 1#32
  let v84 : BitVec 32 := Scalar.muli v83 c1_i32_67
  let v85 : BitVec 32 := Scalar.addi c0_i32_68 v84
  v85.toNat
def k0_off3 (d0 : Dev nD) : Fin 2 → Nat :=
  let c640_i32 : BitVec 32 := 640#32
  let c1_i32_75 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v21 : BitVec 32 := Scalar.shrsi v2 c1_i32_11
  let v22 : BitVec 32 := Scalar.xori v2 v21
  let c1_i32_12 : BitVec 32 := 1#32
  let v23 : BitVec 32 := Scalar.andi v22 c1_i32_12
  let v96 : BitVec 32 := Scalar.subi c1_i32_75 v23
  let c64_i32 : BitVec 32 := 64#32
  let v97 : BitVec 32 := Scalar.muli v96 c64_i32
  let v98 : BitVec 32 := Scalar.addi c640_i32 v97
  let v99 : Index := Scalar.indexCast v98
  let c0_76 : Index := 0#32
  ![v99.toNat, 0]
def k0_dev6 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_86 : BitVec 32 := 1#32
  let v112 : BitVec 32 := Scalar.xori v2 c1_i32_86
  let c1_i32_90 : BitVec 32 := 1#32
  let v113 : BitVec 32 := Scalar.muli v112 c1_i32_90
  let v114 : BitVec 32 := Scalar.addi c0_i32_91 v113
  v114.toNat
def k0_off4 (d0 : Dev nD) : Fin 2 → Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v26 : BitVec 32 := Scalar.shrsi v2 c2_i32
  let c1_i32_15 : BitVec 32 := 1#32
  let v27 : BitVec 32 := Scalar.andi v26 c1_i32_15
  let c192_i32_49 : BitVec 32 := 192#32
  let v65 : BitVec 32 := Scalar.muli v27 c192_i32_49
  let v66 : BitVec 32 := Scalar.addi c0_i32_50 v65
  let v125 : Index := Scalar.indexCast v66
  let c0_98 : Index := 0#32
  ![v125.toNat, 0]
def k0_off5 (d0 : Dev nD) : Fin 2 → Nat :=
  let c0_i32_127 : BitVec 32 := 0#32
  let c1_i32_126 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v24 : BitVec 32 := Scalar.shrsi v2 c1_i32_13
  let c1_i32_14 : BitVec 32 := 1#32
  let v25 : BitVec 32 := Scalar.andi v24 c1_i32_14
  let v154 : BitVec 32 := Scalar.subi c1_i32_126 v25
  let c96_i32 : BitVec 32 := 96#32
  let v155 : BitVec 32 := Scalar.muli v154 c96_i32
  let v156 : BitVec 32 := Scalar.addi c0_i32_127 v155
  let v157 : Index := Scalar.indexCast v156
  let c0_128 : Index := 0#32
  ![v157.toNat, 0]
def k0_dev7 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_132 : BitVec 32 := 3#32
  let v163 : BitVec 32 := Scalar.xori v2 c3_i32_132
  let c1_i32_137 : BitVec 32 := 1#32
  let v164 : BitVec 32 := Scalar.muli v163 c1_i32_137
  let v165 : BitVec 32 := Scalar.addi c0_i32_138 v164
  v165.toNat
def k0_off6 (d0 : Dev nD) : Fin 2 → Nat :=
  let c384_i32_74 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v24 : BitVec 32 := Scalar.shrsi v2 c1_i32_13
  let c1_i32_14 : BitVec 32 := 1#32
  let v25 : BitVec 32 := Scalar.andi v24 c1_i32_14
  let c128_i32_73 : BitVec 32 := 128#32
  let v94 : BitVec 32 := Scalar.muli v25 c128_i32_73
  let v95 : BitVec 32 := Scalar.addi c384_i32_74 v94
  let v178 : Index := Scalar.indexCast v95
  let c0_146 : Index := 0#32
  ![v178.toNat, 0]
def k0_off7 (d0 : Dev nD) : Fin 2 → Nat :=
  let c192_i32_175 : BitVec 32 := 192#32
  let c1_i32_173 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v21 : BitVec 32 := Scalar.shrsi v2 c1_i32_11
  let v22 : BitVec 32 := Scalar.xori v2 v21
  let c1_i32_12 : BitVec 32 := 1#32
  let v23 : BitVec 32 := Scalar.andi v22 c1_i32_12
  let v207 : BitVec 32 := Scalar.subi c1_i32_173 v23
  let c64_i32_174 : BitVec 32 := 64#32
  let v208 : BitVec 32 := Scalar.muli v207 c64_i32_174
  let v209 : BitVec 32 := Scalar.addi c192_i32_175 v208
  let v210 : Index := Scalar.indexCast v209
  let c0_176 : Index := 0#32
  ![v210.toNat, 0]
def k0_dev8 (d0 : Dev nD) : Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_180 : BitVec 32 := 1#32
  let v216 : BitVec 32 := Scalar.xori v2 c1_i32_180
  let c1_i32_185 : BitVec 32 := 1#32
  let v217 : BitVec 32 := Scalar.muli v216 c1_i32_185
  let v218 : BitVec 32 := Scalar.addi c0_i32_186 v217
  v218.toNat
def k0_off8 (d0 : Dev nD) : Fin 2 → Nat :=
  let c640_i32_97 : BitVec 32 := 640#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v21 : BitVec 32 := Scalar.shrsi v2 c1_i32_11
  let v22 : BitVec 32 := Scalar.xori v2 v21
  let c1_i32_12 : BitVec 32 := 1#32
  let v23 : BitVec 32 := Scalar.andi v22 c1_i32_12
  let c64_i32_96 : BitVec 32 := 64#32
  let v123 : BitVec 32 := Scalar.muli v23 c64_i32_96
  let v124 : BitVec 32 := Scalar.addi c640_i32_97 v123
  let v231 : Index := Scalar.indexCast v124
  let c0_194 : Index := 0#32
  ![v231.toNat, 0]
def k0_off9 (d0 : Dev nD) : Fin 2 → Nat :=
  let c320_i32 : BitVec 32 := 320#32
  let c1_i32_221 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v26 : BitVec 32 := Scalar.shrsi v2 c2_i32
  let c1_i32_15 : BitVec 32 := 1#32
  let v27 : BitVec 32 := Scalar.andi v26 c1_i32_15
  let v260 : BitVec 32 := Scalar.subi c1_i32_221 v27
  let c32_i32 : BitVec 32 := 32#32
  let v261 : BitVec 32 := Scalar.muli v260 c32_i32
  let v262 : BitVec 32 := Scalar.addi c320_i32 v261
  let v263 : Index := Scalar.indexCast v262
  let c0_222 : Index := 0#32
  ![v263.toNat, 0]
def k0_dev9 (d0 : Dev nD) : Nat :=
  let c0_i32_231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_226 : BitVec 32 := 4#32
  let v269 : BitVec 32 := Scalar.xori v2 c4_i32_226
  let c1_i32_230 : BitVec 32 := 1#32
  let v270 : BitVec 32 := Scalar.muli v269 c1_i32_230
  let v271 : BitVec 32 := Scalar.addi c0_i32_231 v270
  v271.toNat
def k0_off10 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v24 : BitVec 32 := Scalar.shrsi v2 c1_i32_13
  let c1_i32_14 : BitVec 32 := 1#32
  let v25 : BitVec 32 := Scalar.andi v24 c1_i32_14
  let c96_i32_143 : BitVec 32 := 96#32
  let v174 : BitVec 32 := Scalar.muli v25 c96_i32_143
  let v175 : BitVec 32 := Scalar.addi c0_i32_144 v174
  let v293 : Index := Scalar.indexCast v175
  let c0_250 : Index := 0#32
  ![v293.toNat, 0]
def k0_off11 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v24 : BitVec 32 := Scalar.shrsi v2 c1_i32_13
  let c1_i32_14 : BitVec 32 := 1#32
  let v25 : BitVec 32 := Scalar.andi v24 c1_i32_14
  let c96_i32_143 : BitVec 32 := 96#32
  let v174 : BitVec 32 := Scalar.muli v25 c96_i32_143
  let v175 : BitVec 32 := Scalar.addi c0_i32_144 v174
  let c1_i32_255 : BitVec 32 := 1#32
  let c1_i32_11 : BitVec 32 := 1#32
  let v21 : BitVec 32 := Scalar.shrsi v2 c1_i32_11
  let v22 : BitVec 32 := Scalar.xori v2 v21
  let c1_i32_12 : BitVec 32 := 1#32
  let v23 : BitVec 32 := Scalar.andi v22 c1_i32_12
  let v303 : BitVec 32 := Scalar.subi c1_i32_255 v23
  let c48_i32 : BitVec 32 := 48#32
  let v304 : BitVec 32 := Scalar.muli v303 c48_i32
  let v305 : BitVec 32 := Scalar.addi v175 v304
  let v306 : Index := Scalar.indexCast v305
  let c0_256 : Index := 0#32
  ![v306.toNat, 0]
def k0_dev10 (d0 : Dev nD) : Nat :=
  let c0_i32_266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_260 : BitVec 32 := 1#32
  let v312 : BitVec 32 := Scalar.xori v2 c1_i32_260
  let c1_i32_265 : BitVec 32 := 1#32
  let v313 : BitVec 32 := Scalar.muli v312 c1_i32_265
  let v314 : BitVec 32 := Scalar.addi c0_i32_266 v313
  v314.toNat
def k0_off12 (d0 : Dev nD) : Fin 2 → Nat :=
  let c192_i32_192 : BitVec 32 := 192#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v21 : BitVec 32 := Scalar.shrsi v2 c1_i32_11
  let v22 : BitVec 32 := Scalar.xori v2 v21
  let c1_i32_12 : BitVec 32 := 1#32
  let v23 : BitVec 32 := Scalar.andi v22 c1_i32_12
  let c64_i32_191 : BitVec 32 := 64#32
  let v227 : BitVec 32 := Scalar.muli v23 c64_i32_191
  let v228 : BitVec 32 := Scalar.addi c192_i32_192 v227
  let v336 : Index := Scalar.indexCast v228
  let c0_284 : Index := 0#32
  ![v336.toNat, 0]
def k0_off13 (d0 : Dev nD) : Fin 2 → Nat :=
  let c192_i32_192 : BitVec 32 := 192#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v21 : BitVec 32 := Scalar.shrsi v2 c1_i32_11
  let v22 : BitVec 32 := Scalar.xori v2 v21
  let c1_i32_12 : BitVec 32 := 1#32
  let v23 : BitVec 32 := Scalar.andi v22 c1_i32_12
  let c64_i32_191 : BitVec 32 := 64#32
  let v227 : BitVec 32 := Scalar.muli v23 c64_i32_191
  let v228 : BitVec 32 := Scalar.addi c192_i32_192 v227
  let c1_i32_289 : BitVec 32 := 1#32
  let c2_i32 : BitVec 32 := 2#32
  let v26 : BitVec 32 := Scalar.shrsi v2 c2_i32
  let c1_i32_15 : BitVec 32 := 1#32
  let v27 : BitVec 32 := Scalar.andi v26 c1_i32_15
  let v346 : BitVec 32 := Scalar.subi c1_i32_289 v27
  let c32_i32_290 : BitVec 32 := 32#32
  let v347 : BitVec 32 := Scalar.muli v346 c32_i32_290
  let v348 : BitVec 32 := Scalar.addi v228 v347
  let v349 : Index := Scalar.indexCast v348
  let c0_291 : Index := 0#32
  ![v349.toNat, 0]
def k0_dev11 (d0 : Dev nD) : Nat :=
  let c0_i32_300 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_295 : BitVec 32 := 4#32
  let v355 : BitVec 32 := Scalar.xori v2 c4_i32_295
  let c1_i32_299 : BitVec 32 := 1#32
  let v356 : BitVec 32 := Scalar.muli v355 c1_i32_299
  let v357 : BitVec 32 := Scalar.addi c0_i32_300 v356
  v357.toNat
def k0_off14 (d0 : Dev nD) : Fin 2 → Nat :=
  let c320_i32_237 : BitVec 32 := 320#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v26 : BitVec 32 := Scalar.shrsi v2 c2_i32
  let c1_i32_15 : BitVec 32 := 1#32
  let v27 : BitVec 32 := Scalar.andi v26 c1_i32_15
  let c32_i32_236 : BitVec 32 := 32#32
  let v280 : BitVec 32 := Scalar.muli v27 c32_i32_236
  let v281 : BitVec 32 := Scalar.addi c320_i32_237 v280
  let v379 : Index := Scalar.indexCast v281
  let c0_318 : Index := 0#32
  ![v379.toNat, 0]
def k0_off15 (d0 : Dev nD) : Fin 2 → Nat :=
  let c320_i32_237 : BitVec 32 := 320#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v26 : BitVec 32 := Scalar.shrsi v2 c2_i32
  let c1_i32_15 : BitVec 32 := 1#32
  let v27 : BitVec 32 := Scalar.andi v26 c1_i32_15
  let c32_i32_236 : BitVec 32 := 32#32
  let v280 : BitVec 32 := Scalar.muli v27 c32_i32_236
  let v281 : BitVec 32 := Scalar.addi c320_i32_237 v280
  let c1_i32_323 : BitVec 32 := 1#32
  let c1_i32_13 : BitVec 32 := 1#32
  let v24 : BitVec 32 := Scalar.shrsi v2 c1_i32_13
  let c1_i32_14 : BitVec 32 := 1#32
  let v25 : BitVec 32 := Scalar.andi v24 c1_i32_14
  let v389 : BitVec 32 := Scalar.subi c1_i32_323 v25
  let c16_i32 : BitVec 32 := 16#32
  let v390 : BitVec 32 := Scalar.muli v389 c16_i32
  let v391 : BitVec 32 := Scalar.addi v281 v390
  let v392 : Index := Scalar.indexCast v391
  let c0_324 : Index := 0#32
  ![v392.toNat, 0]
def k0_dev12 (d0 : Dev nD) : Nat :=
  let c0_i32_334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_328 : BitVec 32 := 3#32
  let v398 : BitVec 32 := Scalar.xori v2 c3_i32_328
  let c1_i32_333 : BitVec 32 := 1#32
  let v399 : BitVec 32 := Scalar.muli v398 c1_i32_333
  let v400 : BitVec 32 := Scalar.addi c0_i32_334 v399
  v400.toNat
def k0_off16 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v24 : BitVec 32 := Scalar.shrsi v2 c1_i32_13
  let c1_i32_14 : BitVec 32 := 1#32
  let v25 : BitVec 32 := Scalar.andi v24 c1_i32_14
  let c96_i32_143 : BitVec 32 := 96#32
  let v174 : BitVec 32 := Scalar.muli v25 c96_i32_143
  let v175 : BitVec 32 := Scalar.addi c0_i32_144 v174
  let c1_i32_11 : BitVec 32 := 1#32
  let v21 : BitVec 32 := Scalar.shrsi v2 c1_i32_11
  let v22 : BitVec 32 := Scalar.xori v2 v21
  let c1_i32_12 : BitVec 32 := 1#32
  let v23 : BitVec 32 := Scalar.andi v22 c1_i32_12
  let c48_i32_271 : BitVec 32 := 48#32
  let v323 : BitVec 32 := Scalar.muli v23 c48_i32_271
  let v324 : BitVec 32 := Scalar.addi v175 v323
  let v422 : Index := Scalar.indexCast v324
  let c0_352 : Index := 0#32
  ![v422.toNat, 0]
def k0_off17 (d0 : Dev nD) : Fin 2 → Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v26 : BitVec 32 := Scalar.shrsi v2 c2_i32
  let c1_i32_15 : BitVec 32 := 1#32
  let v27 : BitVec 32 := Scalar.andi v26 c1_i32_15
  let c192_i32_49 : BitVec 32 := 192#32
  let v65 : BitVec 32 := Scalar.muli v27 c192_i32_49
  let v66 : BitVec 32 := Scalar.addi c0_i32_50 v65
  let c1_i32_13 : BitVec 32 := 1#32
  let v24 : BitVec 32 := Scalar.shrsi v2 c1_i32_13
  let c1_i32_14 : BitVec 32 := 1#32
  let v25 : BitVec 32 := Scalar.andi v24 c1_i32_14
  let c96_i32_145 : BitVec 32 := 96#32
  let v176 : BitVec 32 := Scalar.muli v25 c96_i32_145
  let v177 : BitVec 32 := Scalar.addi v66 v176
  let c1_i32_11 : BitVec 32 := 1#32
  let v21 : BitVec 32 := Scalar.shrsi v2 c1_i32_11
  let v22 : BitVec 32 := Scalar.xori v2 v21
  let c1_i32_12 : BitVec 32 := 1#32
  let v23 : BitVec 32 := Scalar.andi v22 c1_i32_12
  let c48_i32_272 : BitVec 32 := 48#32
  let v325 : BitVec 32 := Scalar.muli v23 c48_i32_272
  let v326 : BitVec 32 := Scalar.addi v177 v325
  let v435 : Index := Scalar.indexCast v326
  let c0_358 : Index := 0#32
  ![v435.toNat, 0]
def k0_off18 (d0 : Dev nD) : Fin 2 → Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v26 : BitVec 32 := Scalar.shrsi v2 c2_i32
  let c1_i32_15 : BitVec 32 := 1#32
  let v27 : BitVec 32 := Scalar.andi v26 c1_i32_15
  let c192_i32_49 : BitVec 32 := 192#32
  let v65 : BitVec 32 := Scalar.muli v27 c192_i32_49
  let v66 : BitVec 32 := Scalar.addi c0_i32_50 v65
  let c1_i32_13 : BitVec 32 := 1#32
  let v24 : BitVec 32 := Scalar.shrsi v2 c1_i32_13
  let c1_i32_14 : BitVec 32 := 1#32
  let v25 : BitVec 32 := Scalar.andi v24 c1_i32_14
  let c96_i32_145 : BitVec 32 := 96#32
  let v176 : BitVec 32 := Scalar.muli v25 c96_i32_145
  let v177 : BitVec 32 := Scalar.addi v66 v176
  let c1_i32_11 : BitVec 32 := 1#32
  let v21 : BitVec 32 := Scalar.shrsi v2 c1_i32_11
  let v22 : BitVec 32 := Scalar.xori v2 v21
  let c1_i32_12 : BitVec 32 := 1#32
  let v23 : BitVec 32 := Scalar.andi v22 c1_i32_12
  let c48_i32_272 : BitVec 32 := 48#32
  let v325 : BitVec 32 := Scalar.muli v23 c48_i32_272
  let v326 : BitVec 32 := Scalar.addi v177 v325
  let c0_i32_363 : BitVec 32 := 0#32
  ![v326.toNat, 0]
def k0_dev13 (d0 : Dev nD) : Nat :=
  let c0_i32_362 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_359 : BitVec 32 := 1#32
  let v439 : BitVec 32 := Scalar.xori v2 c1_i32_359
  let c1_i32_361 : BitVec 32 := 1#32
  let v440 : BitVec 32 := Scalar.muli v439 c1_i32_361
  let v441 : BitVec 32 := Scalar.addi c0_i32_362 v440
  v441.toNat
def k0_off19 (d0 : Dev nD) : Fin 2 → Nat :=
  let c192_i32_192 : BitVec 32 := 192#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v21 : BitVec 32 := Scalar.shrsi v2 c1_i32_11
  let v22 : BitVec 32 := Scalar.xori v2 v21
  let c1_i32_12 : BitVec 32 := 1#32
  let v23 : BitVec 32 := Scalar.andi v22 c1_i32_12
  let c64_i32_191 : BitVec 32 := 64#32
  let v227 : BitVec 32 := Scalar.muli v23 c64_i32_191
  let v228 : BitVec 32 := Scalar.addi c192_i32_192 v227
  let c2_i32 : BitVec 32 := 2#32
  let v26 : BitVec 32 := Scalar.shrsi v2 c2_i32
  let c1_i32_15 : BitVec 32 := 1#32
  let v27 : BitVec 32 := Scalar.andi v26 c1_i32_15
  let c32_i32_305 : BitVec 32 := 32#32
  let v366 : BitVec 32 := Scalar.muli v27 c32_i32_305
  let v367 : BitVec 32 := Scalar.addi v228 v366
  let v459 : Index := Scalar.indexCast v367
  let c0_377 : Index := 0#32
  ![v459.toNat, 0]
def k0_off20 (d0 : Dev nD) : Fin 2 → Nat :=
  let c384_i32_74 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v24 : BitVec 32 := Scalar.shrsi v2 c1_i32_13
  let c1_i32_14 : BitVec 32 := 1#32
  let v25 : BitVec 32 := Scalar.andi v24 c1_i32_14
  let c128_i32_73 : BitVec 32 := 128#32
  let v94 : BitVec 32 := Scalar.muli v25 c128_i32_73
  let v95 : BitVec 32 := Scalar.addi c384_i32_74 v94
  let c1_i32_11 : BitVec 32 := 1#32
  let v21 : BitVec 32 := Scalar.shrsi v2 c1_i32_11
  let v22 : BitVec 32 := Scalar.xori v2 v21
  let c1_i32_12 : BitVec 32 := 1#32
  let v23 : BitVec 32 := Scalar.andi v22 c1_i32_12
  let c64_i32_193 : BitVec 32 := 64#32
  let v229 : BitVec 32 := Scalar.muli v23 c64_i32_193
  let v230 : BitVec 32 := Scalar.addi v95 v229
  let c2_i32 : BitVec 32 := 2#32
  let v26 : BitVec 32 := Scalar.shrsi v2 c2_i32
  let c1_i32_15 : BitVec 32 := 1#32
  let v27 : BitVec 32 := Scalar.andi v26 c1_i32_15
  let c32_i32_306 : BitVec 32 := 32#32
  let v368 : BitVec 32 := Scalar.muli v27 c32_i32_306
  let v369 : BitVec 32 := Scalar.addi v230 v368
  let v472 : Index := Scalar.indexCast v369
  let c0_383 : Index := 0#32
  ![v472.toNat, 0]
def k0_off21 (d0 : Dev nD) : Fin 2 → Nat :=
  let c384_i32_74 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v24 : BitVec 32 := Scalar.shrsi v2 c1_i32_13
  let c1_i32_14 : BitVec 32 := 1#32
  let v25 : BitVec 32 := Scalar.andi v24 c1_i32_14
  let c128_i32_73 : BitVec 32 := 128#32
  let v94 : BitVec 32 := Scalar.muli v25 c128_i32_73
  let v95 : BitVec 32 := Scalar.addi c384_i32_74 v94
  let c1_i32_11 : BitVec 32 := 1#32
  let v21 : BitVec 32 := Scalar.shrsi v2 c1_i32_11
  let v22 : BitVec 32 := Scalar.xori v2 v21
  let c1_i32_12 : BitVec 32 := 1#32
  let v23 : BitVec 32 := Scalar.andi v22 c1_i32_12
  let c64_i32_193 : BitVec 32 := 64#32
  let v229 : BitVec 32 := Scalar.muli v23 c64_i32_193
  let v230 : BitVec 32 := Scalar.addi v95 v229
  let c2_i32 : BitVec 32 := 2#32
  let v26 : BitVec 32 := Scalar.shrsi v2 c2_i32
  let c1_i32_15 : BitVec 32 := 1#32
  let v27 : BitVec 32 := Scalar.andi v26 c1_i32_15
  let c32_i32_306 : BitVec 32 := 32#32
  let v368 : BitVec 32 := Scalar.muli v27 c32_i32_306
  let v369 : BitVec 32 := Scalar.addi v230 v368
  let c0_i32_388 : BitVec 32 := 0#32
  ![v369.toNat, 0]
def k0_dev14 (d0 : Dev nD) : Nat :=
  let c0_i32_387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_384 : BitVec 32 := 4#32
  let v476 : BitVec 32 := Scalar.xori v2 c4_i32_384
  let c1_i32_386 : BitVec 32 := 1#32
  let v477 : BitVec 32 := Scalar.muli v476 c1_i32_386
  let v478 : BitVec 32 := Scalar.addi c0_i32_387 v477
  v478.toNat
def k0_off22 (d0 : Dev nD) : Fin 2 → Nat :=
  let c320_i32_237 : BitVec 32 := 320#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v26 : BitVec 32 := Scalar.shrsi v2 c2_i32
  let c1_i32_15 : BitVec 32 := 1#32
  let v27 : BitVec 32 := Scalar.andi v26 c1_i32_15
  let c32_i32_236 : BitVec 32 := 32#32
  let v280 : BitVec 32 := Scalar.muli v27 c32_i32_236
  let v281 : BitVec 32 := Scalar.addi c320_i32_237 v280
  let c1_i32_13 : BitVec 32 := 1#32
  let v24 : BitVec 32 := Scalar.shrsi v2 c1_i32_13
  let c1_i32_14 : BitVec 32 := 1#32
  let v25 : BitVec 32 := Scalar.andi v24 c1_i32_14
  let c16_i32_339 : BitVec 32 := 16#32
  let v409 : BitVec 32 := Scalar.muli v25 c16_i32_339
  let v410 : BitVec 32 := Scalar.addi v281 v409
  let v496 : Index := Scalar.indexCast v410
  let c0_402 : Index := 0#32
  ![v496.toNat, 0]
def k0_off23 (d0 : Dev nD) : Fin 2 → Nat :=
  let c640_i32_97 : BitVec 32 := 640#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v21 : BitVec 32 := Scalar.shrsi v2 c1_i32_11
  let v22 : BitVec 32 := Scalar.xori v2 v21
  let c1_i32_12 : BitVec 32 := 1#32
  let v23 : BitVec 32 := Scalar.andi v22 c1_i32_12
  let c64_i32_96 : BitVec 32 := 64#32
  let v123 : BitVec 32 := Scalar.muli v23 c64_i32_96
  let v124 : BitVec 32 := Scalar.addi c640_i32_97 v123
  let c2_i32 : BitVec 32 := 2#32
  let v26 : BitVec 32 := Scalar.shrsi v2 c2_i32
  let c1_i32_15 : BitVec 32 := 1#32
  let v27 : BitVec 32 := Scalar.andi v26 c1_i32_15
  let c32_i32_238 : BitVec 32 := 32#32
  let v282 : BitVec 32 := Scalar.muli v27 c32_i32_238
  let v283 : BitVec 32 := Scalar.addi v124 v282
  let c1_i32_13 : BitVec 32 := 1#32
  let v24 : BitVec 32 := Scalar.shrsi v2 c1_i32_13
  let c1_i32_14 : BitVec 32 := 1#32
  let v25 : BitVec 32 := Scalar.andi v24 c1_i32_14
  let c16_i32_340 : BitVec 32 := 16#32
  let v411 : BitVec 32 := Scalar.muli v25 c16_i32_340
  let v412 : BitVec 32 := Scalar.addi v283 v411
  let v509 : Index := Scalar.indexCast v412
  let c0_408 : Index := 0#32
  ![v509.toNat, 0]
def k0_off24 (d0 : Dev nD) : Fin 2 → Nat :=
  let c640_i32_97 : BitVec 32 := 640#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v21 : BitVec 32 := Scalar.shrsi v2 c1_i32_11
  let v22 : BitVec 32 := Scalar.xori v2 v21
  let c1_i32_12 : BitVec 32 := 1#32
  let v23 : BitVec 32 := Scalar.andi v22 c1_i32_12
  let c64_i32_96 : BitVec 32 := 64#32
  let v123 : BitVec 32 := Scalar.muli v23 c64_i32_96
  let v124 : BitVec 32 := Scalar.addi c640_i32_97 v123
  let c2_i32 : BitVec 32 := 2#32
  let v26 : BitVec 32 := Scalar.shrsi v2 c2_i32
  let c1_i32_15 : BitVec 32 := 1#32
  let v27 : BitVec 32 := Scalar.andi v26 c1_i32_15
  let c32_i32_238 : BitVec 32 := 32#32
  let v282 : BitVec 32 := Scalar.muli v27 c32_i32_238
  let v283 : BitVec 32 := Scalar.addi v124 v282
  let c1_i32_13 : BitVec 32 := 1#32
  let v24 : BitVec 32 := Scalar.shrsi v2 c1_i32_13
  let c1_i32_14 : BitVec 32 := 1#32
  let v25 : BitVec 32 := Scalar.andi v24 c1_i32_14
  let c16_i32_340 : BitVec 32 := 16#32
  let v411 : BitVec 32 := Scalar.muli v25 c16_i32_340
  let v412 : BitVec 32 := Scalar.addi v283 v411
  let c0_i32_413 : BitVec 32 := 0#32
  ![v412.toNat, 0]
def k0_dev15 (d0 : Dev nD) : Nat :=
  let c0_i32_412 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_409 : BitVec 32 := 3#32
  let v513 : BitVec 32 := Scalar.xori v2 c3_i32_409
  let c1_i32_411 : BitVec 32 := 1#32
  let v514 : BitVec 32 := Scalar.muli v513 c1_i32_411
  let v515 : BitVec 32 := Scalar.addi c0_i32_412 v514
  v515.toNat
def k0_off25 (d0 : Dev nD) : Fin 2 → Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v26 : BitVec 32 := Scalar.shrsi v2 c2_i32
  let c1_i32_15 : BitVec 32 := 1#32
  let v27 : BitVec 32 := Scalar.andi v26 c1_i32_15
  let c192_i32_49 : BitVec 32 := 192#32
  let v65 : BitVec 32 := Scalar.muli v27 c192_i32_49
  let v66 : BitVec 32 := Scalar.addi c0_i32_50 v65
  let c1_i32_13 : BitVec 32 := 1#32
  let v24 : BitVec 32 := Scalar.shrsi v2 c1_i32_13
  let c1_i32_14 : BitVec 32 := 1#32
  let v25 : BitVec 32 := Scalar.andi v24 c1_i32_14
  let c96_i32_145 : BitVec 32 := 96#32
  let v176 : BitVec 32 := Scalar.muli v25 c96_i32_145
  let v177 : BitVec 32 := Scalar.addi v66 v176
  let c1_i32_11 : BitVec 32 := 1#32
  let v21 : BitVec 32 := Scalar.shrsi v2 c1_i32_11
  let v22 : BitVec 32 := Scalar.xori v2 v21
  let c1_i32_12 : BitVec 32 := 1#32
  let v23 : BitVec 32 := Scalar.andi v22 c1_i32_12
  let c48_i32_272 : BitVec 32 := 48#32
  let v325 : BitVec 32 := Scalar.muli v23 c48_i32_272
  let v326 : BitVec 32 := Scalar.addi v177 v325
  let c48_i32_365 : BitVec 32 := 48#32
  let v448 : BitVec 32 := Scalar.muli v23 c48_i32_365
  let v449 : BitVec 32 := Scalar.subi v326 v448
  let c0_i32_421 : BitVec 32 := 0#32
  ![v449.toNat, 0]
def k0_off26 (d0 : Dev nD) : Fin 2 → Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v26 : BitVec 32 := Scalar.shrsi v2 c2_i32
  let c1_i32_15 : BitVec 32 := 1#32
  let v27 : BitVec 32 := Scalar.andi v26 c1_i32_15
  let c192_i32_49 : BitVec 32 := 192#32
  let v65 : BitVec 32 := Scalar.muli v27 c192_i32_49
  let v66 : BitVec 32 := Scalar.addi c0_i32_50 v65
  let c1_i32_13 : BitVec 32 := 1#32
  let v24 : BitVec 32 := Scalar.shrsi v2 c1_i32_13
  let c1_i32_14 : BitVec 32 := 1#32
  let v25 : BitVec 32 := Scalar.andi v24 c1_i32_14
  let c96_i32_145 : BitVec 32 := 96#32
  let v176 : BitVec 32 := Scalar.muli v25 c96_i32_145
  let v177 : BitVec 32 := Scalar.addi v66 v176
  let c1_i32_11 : BitVec 32 := 1#32
  let v21 : BitVec 32 := Scalar.shrsi v2 c1_i32_11
  let v22 : BitVec 32 := Scalar.xori v2 v21
  let c1_i32_12 : BitVec 32 := 1#32
  let v23 : BitVec 32 := Scalar.andi v22 c1_i32_12
  let c48_i32_272 : BitVec 32 := 48#32
  let v325 : BitVec 32 := Scalar.muli v23 c48_i32_272
  let v326 : BitVec 32 := Scalar.addi v177 v325
  let c48_i32_365 : BitVec 32 := 48#32
  let v448 : BitVec 32 := Scalar.muli v23 c48_i32_365
  let v449 : BitVec 32 := Scalar.subi v326 v448
  let c0_i32_427 : BitVec 32 := 0#32
  ![v449.toNat, 0]
def k0_dev16 (d0 : Dev nD) : Nat :=
  let c0_i32_426 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_423 : BitVec 32 := 3#32
  let v531 : BitVec 32 := Scalar.xori v2 c3_i32_423
  let c1_i32_425 : BitVec 32 := 1#32
  let v532 : BitVec 32 := Scalar.muli v531 c1_i32_425
  let v533 : BitVec 32 := Scalar.addi c0_i32_426 v532
  v533.toNat
def k0_off27 (d0 : Dev nD) : Fin 2 → Nat :=
  let c384_i32_74 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v24 : BitVec 32 := Scalar.shrsi v2 c1_i32_13
  let c1_i32_14 : BitVec 32 := 1#32
  let v25 : BitVec 32 := Scalar.andi v24 c1_i32_14
  let c128_i32_73 : BitVec 32 := 128#32
  let v94 : BitVec 32 := Scalar.muli v25 c128_i32_73
  let v95 : BitVec 32 := Scalar.addi c384_i32_74 v94
  let c1_i32_11 : BitVec 32 := 1#32
  let v21 : BitVec 32 := Scalar.shrsi v2 c1_i32_11
  let v22 : BitVec 32 := Scalar.xori v2 v21
  let c1_i32_12 : BitVec 32 := 1#32
  let v23 : BitVec 32 := Scalar.andi v22 c1_i32_12
  let c64_i32_193 : BitVec 32 := 64#32
  let v229 : BitVec 32 := Scalar.muli v23 c64_i32_193
  let v230 : BitVec 32 := Scalar.addi v95 v229
  let c2_i32 : BitVec 32 := 2#32
  let v26 : BitVec 32 := Scalar.shrsi v2 c2_i32
  let c1_i32_15 : BitVec 32 := 1#32
  let v27 : BitVec 32 := Scalar.andi v26 c1_i32_15
  let c32_i32_306 : BitVec 32 := 32#32
  let v368 : BitVec 32 := Scalar.muli v27 c32_i32_306
  let v369 : BitVec 32 := Scalar.addi v230 v368
  let c32_i32_390 : BitVec 32 := 32#32
  let v485 : BitVec 32 := Scalar.muli v27 c32_i32_390
  let v486 : BitVec 32 := Scalar.subi v369 v485
  let c0_i32_436 : BitVec 32 := 0#32
  ![v486.toNat, 0]
def k0_off28 (d0 : Dev nD) : Fin 2 → Nat :=
  let c384_i32_74 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v24 : BitVec 32 := Scalar.shrsi v2 c1_i32_13
  let c1_i32_14 : BitVec 32 := 1#32
  let v25 : BitVec 32 := Scalar.andi v24 c1_i32_14
  let c128_i32_73 : BitVec 32 := 128#32
  let v94 : BitVec 32 := Scalar.muli v25 c128_i32_73
  let v95 : BitVec 32 := Scalar.addi c384_i32_74 v94
  let c1_i32_11 : BitVec 32 := 1#32
  let v21 : BitVec 32 := Scalar.shrsi v2 c1_i32_11
  let v22 : BitVec 32 := Scalar.xori v2 v21
  let c1_i32_12 : BitVec 32 := 1#32
  let v23 : BitVec 32 := Scalar.andi v22 c1_i32_12
  let c64_i32_193 : BitVec 32 := 64#32
  let v229 : BitVec 32 := Scalar.muli v23 c64_i32_193
  let v230 : BitVec 32 := Scalar.addi v95 v229
  let c2_i32 : BitVec 32 := 2#32
  let v26 : BitVec 32 := Scalar.shrsi v2 c2_i32
  let c1_i32_15 : BitVec 32 := 1#32
  let v27 : BitVec 32 := Scalar.andi v26 c1_i32_15
  let c32_i32_306 : BitVec 32 := 32#32
  let v368 : BitVec 32 := Scalar.muli v27 c32_i32_306
  let v369 : BitVec 32 := Scalar.addi v230 v368
  let c32_i32_390 : BitVec 32 := 32#32
  let v485 : BitVec 32 := Scalar.muli v27 c32_i32_390
  let v486 : BitVec 32 := Scalar.subi v369 v485
  let c0_i32_442 : BitVec 32 := 0#32
  ![v486.toNat, 0]
def k0_dev17 (d0 : Dev nD) : Nat :=
  let c0_i32_441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_438 : BitVec 32 := 1#32
  let v550 : BitVec 32 := Scalar.xori v2 c1_i32_438
  let c1_i32_440 : BitVec 32 := 1#32
  let v551 : BitVec 32 := Scalar.muli v550 c1_i32_440
  let v552 : BitVec 32 := Scalar.addi c0_i32_441 v551
  v552.toNat
def k0_off29 (d0 : Dev nD) : Fin 2 → Nat :=
  let c640_i32_97 : BitVec 32 := 640#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v21 : BitVec 32 := Scalar.shrsi v2 c1_i32_11
  let v22 : BitVec 32 := Scalar.xori v2 v21
  let c1_i32_12 : BitVec 32 := 1#32
  let v23 : BitVec 32 := Scalar.andi v22 c1_i32_12
  let c64_i32_96 : BitVec 32 := 64#32
  let v123 : BitVec 32 := Scalar.muli v23 c64_i32_96
  let v124 : BitVec 32 := Scalar.addi c640_i32_97 v123
  let c2_i32 : BitVec 32 := 2#32
  let v26 : BitVec 32 := Scalar.shrsi v2 c2_i32
  let c1_i32_15 : BitVec 32 := 1#32
  let v27 : BitVec 32 := Scalar.andi v26 c1_i32_15
  let c32_i32_238 : BitVec 32 := 32#32
  let v282 : BitVec 32 := Scalar.muli v27 c32_i32_238
  let v283 : BitVec 32 := Scalar.addi v124 v282
  let c1_i32_13 : BitVec 32 := 1#32
  let v24 : BitVec 32 := Scalar.shrsi v2 c1_i32_13
  let c1_i32_14 : BitVec 32 := 1#32
  let v25 : BitVec 32 := Scalar.andi v24 c1_i32_14
  let c16_i32_340 : BitVec 32 := 16#32
  let v411 : BitVec 32 := Scalar.muli v25 c16_i32_340
  let v412 : BitVec 32 := Scalar.addi v283 v411
  let c16_i32_415 : BitVec 32 := 16#32
  let v522 : BitVec 32 := Scalar.muli v25 c16_i32_415
  let v523 : BitVec 32 := Scalar.subi v412 v522
  let c0_i32_451 : BitVec 32 := 0#32
  ![v523.toNat, 0]
def k0_off30 (d0 : Dev nD) : Fin 2 → Nat :=
  let c640_i32_97 : BitVec 32 := 640#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v21 : BitVec 32 := Scalar.shrsi v2 c1_i32_11
  let v22 : BitVec 32 := Scalar.xori v2 v21
  let c1_i32_12 : BitVec 32 := 1#32
  let v23 : BitVec 32 := Scalar.andi v22 c1_i32_12
  let c64_i32_96 : BitVec 32 := 64#32
  let v123 : BitVec 32 := Scalar.muli v23 c64_i32_96
  let v124 : BitVec 32 := Scalar.addi c640_i32_97 v123
  let c2_i32 : BitVec 32 := 2#32
  let v26 : BitVec 32 := Scalar.shrsi v2 c2_i32
  let c1_i32_15 : BitVec 32 := 1#32
  let v27 : BitVec 32 := Scalar.andi v26 c1_i32_15
  let c32_i32_238 : BitVec 32 := 32#32
  let v282 : BitVec 32 := Scalar.muli v27 c32_i32_238
  let v283 : BitVec 32 := Scalar.addi v124 v282
  let c1_i32_13 : BitVec 32 := 1#32
  let v24 : BitVec 32 := Scalar.shrsi v2 c1_i32_13
  let c1_i32_14 : BitVec 32 := 1#32
  let v25 : BitVec 32 := Scalar.andi v24 c1_i32_14
  let c16_i32_340 : BitVec 32 := 16#32
  let v411 : BitVec 32 := Scalar.muli v25 c16_i32_340
  let v412 : BitVec 32 := Scalar.addi v283 v411
  let c16_i32_415 : BitVec 32 := 16#32
  let v522 : BitVec 32 := Scalar.muli v25 c16_i32_415
  let v523 : BitVec 32 := Scalar.subi v412 v522
  let c0_i32_458 : BitVec 32 := 0#32
  ![v523.toNat, 0]
def k0_dev18 (d0 : Dev nD) : Nat :=
  let c0_i32_457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_453 : BitVec 32 := 4#32
  let v569 : BitVec 32 := Scalar.xori v2 c4_i32_453
  let c1_i32_456 : BitVec 32 := 1#32
  let v570 : BitVec 32 := Scalar.muli v569 c1_i32_456
  let v571 : BitVec 32 := Scalar.addi c0_i32_457 v570
  v571.toNat
def k0_off31 (d0 : Dev nD) : Fin 2 → Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v26 : BitVec 32 := Scalar.shrsi v2 c2_i32
  let c1_i32_15 : BitVec 32 := 1#32
  let v27 : BitVec 32 := Scalar.andi v26 c1_i32_15
  let c192_i32_49 : BitVec 32 := 192#32
  let v65 : BitVec 32 := Scalar.muli v27 c192_i32_49
  let v66 : BitVec 32 := Scalar.addi c0_i32_50 v65
  let c1_i32_13 : BitVec 32 := 1#32
  let v24 : BitVec 32 := Scalar.shrsi v2 c1_i32_13
  let c1_i32_14 : BitVec 32 := 1#32
  let v25 : BitVec 32 := Scalar.andi v24 c1_i32_14
  let c96_i32_145 : BitVec 32 := 96#32
  let v176 : BitVec 32 := Scalar.muli v25 c96_i32_145
  let v177 : BitVec 32 := Scalar.addi v66 v176
  let c1_i32_11 : BitVec 32 := 1#32
  let v21 : BitVec 32 := Scalar.shrsi v2 c1_i32_11
  let v22 : BitVec 32 := Scalar.xori v2 v21
  let c1_i32_12 : BitVec 32 := 1#32
  let v23 : BitVec 32 := Scalar.andi v22 c1_i32_12
  let c48_i32_272 : BitVec 32 := 48#32
  let v325 : BitVec 32 := Scalar.muli v23 c48_i32_272
  let v326 : BitVec 32 := Scalar.addi v177 v325
  let c48_i32_365 : BitVec 32 := 48#32
  let v448 : BitVec 32 := Scalar.muli v23 c48_i32_365
  let v449 : BitVec 32 := Scalar.subi v326 v448
  let c2_i32_429 : BitVec 32 := 2#32
  let v540 : BitVec 32 := Scalar.muli v25 c2_i32_429
  let c48_i32_430 : BitVec 32 := 48#32
  let v541 : BitVec 32 := Scalar.muli v540 c48_i32_430
  let v542 : BitVec 32 := Scalar.subi v449 v541
  let c0_i32_467 : BitVec 32 := 0#32
  ![v542.toNat, 0]
def k0_off32 (d0 : Dev nD) : Fin 2 → Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v26 : BitVec 32 := Scalar.shrsi v2 c2_i32
  let c1_i32_15 : BitVec 32 := 1#32
  let v27 : BitVec 32 := Scalar.andi v26 c1_i32_15
  let c192_i32_49 : BitVec 32 := 192#32
  let v65 : BitVec 32 := Scalar.muli v27 c192_i32_49
  let v66 : BitVec 32 := Scalar.addi c0_i32_50 v65
  let c1_i32_13 : BitVec 32 := 1#32
  let v24 : BitVec 32 := Scalar.shrsi v2 c1_i32_13
  let c1_i32_14 : BitVec 32 := 1#32
  let v25 : BitVec 32 := Scalar.andi v24 c1_i32_14
  let c96_i32_145 : BitVec 32 := 96#32
  let v176 : BitVec 32 := Scalar.muli v25 c96_i32_145
  let v177 : BitVec 32 := Scalar.addi v66 v176
  let c1_i32_11 : BitVec 32 := 1#32
  let v21 : BitVec 32 := Scalar.shrsi v2 c1_i32_11
  let v22 : BitVec 32 := Scalar.xori v2 v21
  let c1_i32_12 : BitVec 32 := 1#32
  let v23 : BitVec 32 := Scalar.andi v22 c1_i32_12
  let c48_i32_272 : BitVec 32 := 48#32
  let v325 : BitVec 32 := Scalar.muli v23 c48_i32_272
  let v326 : BitVec 32 := Scalar.addi v177 v325
  let c48_i32_365 : BitVec 32 := 48#32
  let v448 : BitVec 32 := Scalar.muli v23 c48_i32_365
  let v449 : BitVec 32 := Scalar.subi v326 v448
  let c2_i32_429 : BitVec 32 := 2#32
  let v540 : BitVec 32 := Scalar.muli v25 c2_i32_429
  let c48_i32_430 : BitVec 32 := 48#32
  let v541 : BitVec 32 := Scalar.muli v540 c48_i32_430
  let v542 : BitVec 32 := Scalar.subi v449 v541
  let c0_i32_473 : BitVec 32 := 0#32
  ![v542.toNat, 0]
def k0_dev19 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_469 : BitVec 32 := 4#32
  let v588 : BitVec 32 := Scalar.xori v2 c4_i32_469
  let c1_i32_471 : BitVec 32 := 1#32
  let v589 : BitVec 32 := Scalar.muli v588 c1_i32_471
  let v590 : BitVec 32 := Scalar.addi c0_i32_472 v589
  v590.toNat
def k0_off33 (d0 : Dev nD) : Fin 2 → Nat :=
  let c384_i32_74 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v24 : BitVec 32 := Scalar.shrsi v2 c1_i32_13
  let c1_i32_14 : BitVec 32 := 1#32
  let v25 : BitVec 32 := Scalar.andi v24 c1_i32_14
  let c128_i32_73 : BitVec 32 := 128#32
  let v94 : BitVec 32 := Scalar.muli v25 c128_i32_73
  let v95 : BitVec 32 := Scalar.addi c384_i32_74 v94
  let c1_i32_11 : BitVec 32 := 1#32
  let v21 : BitVec 32 := Scalar.shrsi v2 c1_i32_11
  let v22 : BitVec 32 := Scalar.xori v2 v21
  let c1_i32_12 : BitVec 32 := 1#32
  let v23 : BitVec 32 := Scalar.andi v22 c1_i32_12
  let c64_i32_193 : BitVec 32 := 64#32
  let v229 : BitVec 32 := Scalar.muli v23 c64_i32_193
  let v230 : BitVec 32 := Scalar.addi v95 v229
  let c2_i32 : BitVec 32 := 2#32
  let v26 : BitVec 32 := Scalar.shrsi v2 c2_i32
  let c1_i32_15 : BitVec 32 := 1#32
  let v27 : BitVec 32 := Scalar.andi v26 c1_i32_15
  let c32_i32_306 : BitVec 32 := 32#32
  let v368 : BitVec 32 := Scalar.muli v27 c32_i32_306
  let v369 : BitVec 32 := Scalar.addi v230 v368
  let c32_i32_390 : BitVec 32 := 32#32
  let v485 : BitVec 32 := Scalar.muli v27 c32_i32_390
  let v486 : BitVec 32 := Scalar.subi v369 v485
  let c2_i32_444 : BitVec 32 := 2#32
  let v559 : BitVec 32 := Scalar.muli v23 c2_i32_444
  let c32_i32_445 : BitVec 32 := 32#32
  let v560 : BitVec 32 := Scalar.muli v559 c32_i32_445
  let v561 : BitVec 32 := Scalar.subi v486 v560
  let c0_i32_482 : BitVec 32 := 0#32
  ![v561.toNat, 0]
def k0_off34 (d0 : Dev nD) : Fin 2 → Nat :=
  let c384_i32_74 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v24 : BitVec 32 := Scalar.shrsi v2 c1_i32_13
  let c1_i32_14 : BitVec 32 := 1#32
  let v25 : BitVec 32 := Scalar.andi v24 c1_i32_14
  let c128_i32_73 : BitVec 32 := 128#32
  let v94 : BitVec 32 := Scalar.muli v25 c128_i32_73
  let v95 : BitVec 32 := Scalar.addi c384_i32_74 v94
  let c1_i32_11 : BitVec 32 := 1#32
  let v21 : BitVec 32 := Scalar.shrsi v2 c1_i32_11
  let v22 : BitVec 32 := Scalar.xori v2 v21
  let c1_i32_12 : BitVec 32 := 1#32
  let v23 : BitVec 32 := Scalar.andi v22 c1_i32_12
  let c64_i32_193 : BitVec 32 := 64#32
  let v229 : BitVec 32 := Scalar.muli v23 c64_i32_193
  let v230 : BitVec 32 := Scalar.addi v95 v229
  let c2_i32 : BitVec 32 := 2#32
  let v26 : BitVec 32 := Scalar.shrsi v2 c2_i32
  let c1_i32_15 : BitVec 32 := 1#32
  let v27 : BitVec 32 := Scalar.andi v26 c1_i32_15
  let c32_i32_306 : BitVec 32 := 32#32
  let v368 : BitVec 32 := Scalar.muli v27 c32_i32_306
  let v369 : BitVec 32 := Scalar.addi v230 v368
  let c32_i32_390 : BitVec 32 := 32#32
  let v485 : BitVec 32 := Scalar.muli v27 c32_i32_390
  let v486 : BitVec 32 := Scalar.subi v369 v485
  let c2_i32_444 : BitVec 32 := 2#32
  let v559 : BitVec 32 := Scalar.muli v23 c2_i32_444
  let c32_i32_445 : BitVec 32 := 32#32
  let v560 : BitVec 32 := Scalar.muli v559 c32_i32_445
  let v561 : BitVec 32 := Scalar.subi v486 v560
  let c0_i32_488 : BitVec 32 := 0#32
  ![v561.toNat, 0]
def k0_dev20 (d0 : Dev nD) : Nat :=
  let c0_i32_487 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_484 : BitVec 32 := 3#32
  let v607 : BitVec 32 := Scalar.xori v2 c3_i32_484
  let c1_i32_486 : BitVec 32 := 1#32
  let v608 : BitVec 32 := Scalar.muli v607 c1_i32_486
  let v609 : BitVec 32 := Scalar.addi c0_i32_487 v608
  v609.toNat
def k0_off35 (d0 : Dev nD) : Fin 2 → Nat :=
  let c640_i32_97 : BitVec 32 := 640#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v21 : BitVec 32 := Scalar.shrsi v2 c1_i32_11
  let v22 : BitVec 32 := Scalar.xori v2 v21
  let c1_i32_12 : BitVec 32 := 1#32
  let v23 : BitVec 32 := Scalar.andi v22 c1_i32_12
  let c64_i32_96 : BitVec 32 := 64#32
  let v123 : BitVec 32 := Scalar.muli v23 c64_i32_96
  let v124 : BitVec 32 := Scalar.addi c640_i32_97 v123
  let c2_i32 : BitVec 32 := 2#32
  let v26 : BitVec 32 := Scalar.shrsi v2 c2_i32
  let c1_i32_15 : BitVec 32 := 1#32
  let v27 : BitVec 32 := Scalar.andi v26 c1_i32_15
  let c32_i32_238 : BitVec 32 := 32#32
  let v282 : BitVec 32 := Scalar.muli v27 c32_i32_238
  let v283 : BitVec 32 := Scalar.addi v124 v282
  let c1_i32_13 : BitVec 32 := 1#32
  let v24 : BitVec 32 := Scalar.shrsi v2 c1_i32_13
  let c1_i32_14 : BitVec 32 := 1#32
  let v25 : BitVec 32 := Scalar.andi v24 c1_i32_14
  let c16_i32_340 : BitVec 32 := 16#32
  let v411 : BitVec 32 := Scalar.muli v25 c16_i32_340
  let v412 : BitVec 32 := Scalar.addi v283 v411
  let c16_i32_415 : BitVec 32 := 16#32
  let v522 : BitVec 32 := Scalar.muli v25 c16_i32_415
  let v523 : BitVec 32 := Scalar.subi v412 v522
  let c2_i32_460 : BitVec 32 := 2#32
  let v578 : BitVec 32 := Scalar.muli v27 c2_i32_460
  let c16_i32_461 : BitVec 32 := 16#32
  let v579 : BitVec 32 := Scalar.muli v578 c16_i32_461
  let v580 : BitVec 32 := Scalar.subi v523 v579
  let c0_i32_497 : BitVec 32 := 0#32
  ![v580.toNat, 0]
def k0_off36 (d0 : Dev nD) : Fin 2 → Nat :=
  let c640_i32_97 : BitVec 32 := 640#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v21 : BitVec 32 := Scalar.shrsi v2 c1_i32_11
  let v22 : BitVec 32 := Scalar.xori v2 v21
  let c1_i32_12 : BitVec 32 := 1#32
  let v23 : BitVec 32 := Scalar.andi v22 c1_i32_12
  let c64_i32_96 : BitVec 32 := 64#32
  let v123 : BitVec 32 := Scalar.muli v23 c64_i32_96
  let v124 : BitVec 32 := Scalar.addi c640_i32_97 v123
  let c2_i32 : BitVec 32 := 2#32
  let v26 : BitVec 32 := Scalar.shrsi v2 c2_i32
  let c1_i32_15 : BitVec 32 := 1#32
  let v27 : BitVec 32 := Scalar.andi v26 c1_i32_15
  let c32_i32_238 : BitVec 32 := 32#32
  let v282 : BitVec 32 := Scalar.muli v27 c32_i32_238
  let v283 : BitVec 32 := Scalar.addi v124 v282
  let c1_i32_13 : BitVec 32 := 1#32
  let v24 : BitVec 32 := Scalar.shrsi v2 c1_i32_13
  let c1_i32_14 : BitVec 32 := 1#32
  let v25 : BitVec 32 := Scalar.andi v24 c1_i32_14
  let c16_i32_340 : BitVec 32 := 16#32
  let v411 : BitVec 32 := Scalar.muli v25 c16_i32_340
  let v412 : BitVec 32 := Scalar.addi v283 v411
  let c16_i32_415 : BitVec 32 := 16#32
  let v522 : BitVec 32 := Scalar.muli v25 c16_i32_415
  let v523 : BitVec 32 := Scalar.subi v412 v522
  let c2_i32_460 : BitVec 32 := 2#32
  let v578 : BitVec 32 := Scalar.muli v27 c2_i32_460
  let c16_i32_461 : BitVec 32 := 16#32
  let v579 : BitVec 32 := Scalar.muli v578 c16_i32_461
  let v580 : BitVec 32 := Scalar.subi v523 v579
  let c0_i32_503 : BitVec 32 := 0#32
  ![v580.toNat, 0]
def k0_dev21 (d0 : Dev nD) : Nat :=
  let c0_i32_502 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_499 : BitVec 32 := 1#32
  let v626 : BitVec 32 := Scalar.xori v2 c1_i32_499
  let c1_i32_501 : BitVec 32 := 1#32
  let v627 : BitVec 32 := Scalar.muli v626 c1_i32_501
  let v628 : BitVec 32 := Scalar.addi c0_i32_502 v627
  v628.toNat
def k0_off37 (d0 : Dev nD) : Fin 2 → Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v26 : BitVec 32 := Scalar.shrsi v2 c2_i32
  let c1_i32_15 : BitVec 32 := 1#32
  let v27 : BitVec 32 := Scalar.andi v26 c1_i32_15
  let c192_i32_49 : BitVec 32 := 192#32
  let v65 : BitVec 32 := Scalar.muli v27 c192_i32_49
  let v66 : BitVec 32 := Scalar.addi c0_i32_50 v65
  let c1_i32_13 : BitVec 32 := 1#32
  let v24 : BitVec 32 := Scalar.shrsi v2 c1_i32_13
  let c1_i32_14 : BitVec 32 := 1#32
  let v25 : BitVec 32 := Scalar.andi v24 c1_i32_14
  let c96_i32_145 : BitVec 32 := 96#32
  let v176 : BitVec 32 := Scalar.muli v25 c96_i32_145
  let v177 : BitVec 32 := Scalar.addi v66 v176
  let c1_i32_11 : BitVec 32 := 1#32
  let v21 : BitVec 32 := Scalar.shrsi v2 c1_i32_11
  let v22 : BitVec 32 := Scalar.xori v2 v21
  let c1_i32_12 : BitVec 32 := 1#32
  let v23 : BitVec 32 := Scalar.andi v22 c1_i32_12
  let c48_i32_272 : BitVec 32 := 48#32
  let v325 : BitVec 32 := Scalar.muli v23 c48_i32_272
  let v326 : BitVec 32 := Scalar.addi v177 v325
  let c48_i32_365 : BitVec 32 := 48#32
  let v448 : BitVec 32 := Scalar.muli v23 c48_i32_365
  let v449 : BitVec 32 := Scalar.subi v326 v448
  let c2_i32_429 : BitVec 32 := 2#32
  let v540 : BitVec 32 := Scalar.muli v25 c2_i32_429
  let c48_i32_430 : BitVec 32 := 48#32
  let v541 : BitVec 32 := Scalar.muli v540 c48_i32_430
  let v542 : BitVec 32 := Scalar.subi v449 v541
  let c2_i32_475 : BitVec 32 := 2#32
  let v597 : BitVec 32 := Scalar.muli v27 c2_i32_475
  let c96_i32_476 : BitVec 32 := 96#32
  let v598 : BitVec 32 := Scalar.muli v597 c96_i32_476
  let v599 : BitVec 32 := Scalar.subi v542 v598
  let c0_i32_512 : BitVec 32 := 0#32
  ![v599.toNat, 0]
def k0_off38 (d0 : Dev nD) : Fin 2 → Nat :=
  let c384_i32_74 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v24 : BitVec 32 := Scalar.shrsi v2 c1_i32_13
  let c1_i32_14 : BitVec 32 := 1#32
  let v25 : BitVec 32 := Scalar.andi v24 c1_i32_14
  let c128_i32_73 : BitVec 32 := 128#32
  let v94 : BitVec 32 := Scalar.muli v25 c128_i32_73
  let v95 : BitVec 32 := Scalar.addi c384_i32_74 v94
  let c1_i32_11 : BitVec 32 := 1#32
  let v21 : BitVec 32 := Scalar.shrsi v2 c1_i32_11
  let v22 : BitVec 32 := Scalar.xori v2 v21
  let c1_i32_12 : BitVec 32 := 1#32
  let v23 : BitVec 32 := Scalar.andi v22 c1_i32_12
  let c64_i32_193 : BitVec 32 := 64#32
  let v229 : BitVec 32 := Scalar.muli v23 c64_i32_193
  let v230 : BitVec 32 := Scalar.addi v95 v229
  let c2_i32 : BitVec 32 := 2#32
  let v26 : BitVec 32 := Scalar.shrsi v2 c2_i32
  let c1_i32_15 : BitVec 32 := 1#32
  let v27 : BitVec 32 := Scalar.andi v26 c1_i32_15
  let c32_i32_306 : BitVec 32 := 32#32
  let v368 : BitVec 32 := Scalar.muli v27 c32_i32_306
  let v369 : BitVec 32 := Scalar.addi v230 v368
  let c32_i32_390 : BitVec 32 := 32#32
  let v485 : BitVec 32 := Scalar.muli v27 c32_i32_390
  let v486 : BitVec 32 := Scalar.subi v369 v485
  let c2_i32_444 : BitVec 32 := 2#32
  let v559 : BitVec 32 := Scalar.muli v23 c2_i32_444
  let c32_i32_445 : BitVec 32 := 32#32
  let v560 : BitVec 32 := Scalar.muli v559 c32_i32_445
  let v561 : BitVec 32 := Scalar.subi v486 v560
  let c2_i32_490 : BitVec 32 := 2#32
  let v616 : BitVec 32 := Scalar.muli v25 c2_i32_490
  let c64_i32_491 : BitVec 32 := 64#32
  let v617 : BitVec 32 := Scalar.muli v616 c64_i32_491
  let v618 : BitVec 32 := Scalar.subi v561 v617
  let c0_i32_519 : BitVec 32 := 0#32
  ![v618.toNat, 0]
def k0_off39 (d0 : Dev nD) : Fin 2 → Nat :=
  let c640_i32_97 : BitVec 32 := 640#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v21 : BitVec 32 := Scalar.shrsi v2 c1_i32_11
  let v22 : BitVec 32 := Scalar.xori v2 v21
  let c1_i32_12 : BitVec 32 := 1#32
  let v23 : BitVec 32 := Scalar.andi v22 c1_i32_12
  let c64_i32_96 : BitVec 32 := 64#32
  let v123 : BitVec 32 := Scalar.muli v23 c64_i32_96
  let v124 : BitVec 32 := Scalar.addi c640_i32_97 v123
  let c2_i32 : BitVec 32 := 2#32
  let v26 : BitVec 32 := Scalar.shrsi v2 c2_i32
  let c1_i32_15 : BitVec 32 := 1#32
  let v27 : BitVec 32 := Scalar.andi v26 c1_i32_15
  let c32_i32_238 : BitVec 32 := 32#32
  let v282 : BitVec 32 := Scalar.muli v27 c32_i32_238
  let v283 : BitVec 32 := Scalar.addi v124 v282
  let c1_i32_13 : BitVec 32 := 1#32
  let v24 : BitVec 32 := Scalar.shrsi v2 c1_i32_13
  let c1_i32_14 : BitVec 32 := 1#32
  let v25 : BitVec 32 := Scalar.andi v24 c1_i32_14
  let c16_i32_340 : BitVec 32 := 16#32
  let v411 : BitVec 32 := Scalar.muli v25 c16_i32_340
  let v412 : BitVec 32 := Scalar.addi v283 v411
  let c16_i32_415 : BitVec 32 := 16#32
  let v522 : BitVec 32 := Scalar.muli v25 c16_i32_415
  let v523 : BitVec 32 := Scalar.subi v412 v522
  let c2_i32_460 : BitVec 32 := 2#32
  let v578 : BitVec 32 := Scalar.muli v27 c2_i32_460
  let c16_i32_461 : BitVec 32 := 16#32
  let v579 : BitVec 32 := Scalar.muli v578 c16_i32_461
  let v580 : BitVec 32 := Scalar.subi v523 v579
  let c2_i32_505 : BitVec 32 := 2#32
  let v635 : BitVec 32 := Scalar.muli v23 c2_i32_505
  let c32_i32_506 : BitVec 32 := 32#32
  let v636 : BitVec 32 := Scalar.muli v635 c32_i32_506
  let v637 : BitVec 32 := Scalar.subi v580 v636
  let c0_i32_526 : BitVec 32 := 0#32
  ![v637.toNat, 0]
abbrev stage0_0 : Fin 1 → Memref sig .tc .vmem S768x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S768x768 : Shape := ⟨2, ![768, 768]⟩
abbrev S768x12288 : Shape := ⟨2, ![768, 12288]⟩
abbrev S12288x768 : Shape := ⟨2, ![12288, 768]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S768x768, .f32⟩
  | .hbm, ⟨1, _⟩ => ⟨S768x12288, .f32⟩
  | .hbm, ⟨2, _⟩ => ⟨S12288x768, .f32⟩
  | .hbm, ⟨3, _⟩ => ⟨S768x12288, .f32⟩
  | .hbm, ⟨4, _⟩ => ⟨S_, .f32⟩
  | .hbm, ⟨5, _⟩ => ⟨S768x12288, .f32⟩
  | .hbm, ⟨6, _⟩ => ⟨S768x12288, .f32⟩
  | .hbm, ⟨7, _⟩ => ⟨S768x768, .f32⟩
  | _, _ => ⟨S768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Geometry.lean ====
/-
  The cube of eight devices and the rows the copies move: which device each copy goes to, and, for each of the three bands of rows, the
  region a device still holds at each level of halving and the sibling region its partner holds.
-/
module

public import proofs.«01_k».proof.Proof.Gen.KernelIdeal
public import Idealize.ShloMosaic.Lib.Pipeline.Launch
public import Idealize.ShloMosaic.Lib.Pipeline.Kit
public import Idealize.ShloMosaic.Lib.Pipeline.Value
public import Idealize.ShloMosaic.Lib.Pipeline.ValueKit.Geometry
public import Idealize.ShloMosaic.Lib.ValueIdxCore
public import Idealize.ShloMosaic.Lib.Tactic

@[expose] public section

noncomputable section

namespace Cert.Mlp

open Cert.KernelIdeal Cert.KernelIdeal.Gen
open Idealize.ShloMosaic Idealize.ShloMosaic.ValueIdx

/-! ## The cube -/

/-- The bits of the device number that an exchange along an axis flips. -/
def mask : Fin 3 → ℕ
  | 0 => 1
  | 1 => 3
  | 2 => 4

/-- The partner of a device along an axis. -/
def flip (a : Fin 3) (c : Dev nD) : Dev nD := Fin.ofNat 8 (c.val ^^^ mask a)

theorem flip_flip (a : Fin 3) (c : Dev nD) : flip a (flip a c) = c := by revert a c; decide

/-- Which half along an axis a device keeps. -/
def side : Fin 3 → ℕ → ℕ
  | 0, c => (c ^^^ (c >>> 1)) &&& 1
  | 1, c => (c >>> 1) &&& 1
  | 2, c => (c >>> 2) &&& 1

/-- The axis a band halves along at a stage. -/
def axisOf : Fin 3 → ℕ → Fin 3
  | 0, 0 => 2
  | 0, 1 => 1
  | 0, _ => 0
  | 1, 0 => 1
  | 1, 1 => 0
  | 1, _ => 2
  | 2, 0 => 0
  | 2, 1 => 2
  | 2, _ => 1

/-- First row of a band; -/
def base : Fin 3 → ℕ
  | 0 => 0
  | 1 => 384
  | 2 => 640
/-- its number of rows at a level of halving; -/
def lvl (b : Fin 3) (s : ℕ) : ℕ := (match b with | 0 => 384 | 1 => 256 | 2 => 128) / 2 ^ s
/-- its first row in the buffer of partial sums, which has room for half of each band. -/
def pbase : Fin 3 → ℕ
  | 0 => 0
  | 1 => 192
  | 2 => 320

/-- First row of the region a device holds of a band at a level of halving. -/
def kept (b : Fin 3) : ℕ → Dev nD → ℕ
  | 0, _ => base b
  | s + 1, c => kept b s c + side (axisOf b s) c.val * lvl b (s + 1)

/-- First row of the sibling of that region: the half that its partner holds. -/
def sib (b : Fin 3) : ℕ → Dev nD → ℕ
  | 0, _ => base b
  | s + 1, c => kept b s c + (1 - side (axisOf b s) c.val) * lvl b (s + 1)

/-- The band of a row. -/
def bandOf (r : ℕ) : Fin 3 := if r < 384 then 0 else if r < 640 then 1 else 2

theorem kept_mem (b : Fin 3) (c : Dev nD) : ∀ s : Fin 4, base b ≤ kept b s c ∧ kept b s c + lvl b s ≤ base b + lvl b 0 := by
  revert b c; decide +kernel
theorem sib_mem (b : Fin 3) (c : Dev nD) : ∀ s : Fin 4, base b ≤ sib b s c ∧ sib b s c + lvl b s ≤ base b + lvl b 0 := by
  revert b c; decide +kernel

/-- A region is its two halves. -/
theorem halves (b : Fin 3) (c : Dev nD) : ∀ s : Fin 3, (kept b (s + 1) c = kept b s c ∧ sib b (s + 1) c = kept b s c + lvl b (s + 1)
    ∨ sib b (s + 1) c = kept b s c ∧ kept b (s + 1) c = kept b s c + lvl b (s + 1)) ∧ lvl b s = 2 * lvl b (s + 1) := by
  revert b c; decide +kernel

theorem bandOf_mem (b : Fin 3) {r : ℕ} (h0 : base b ≤ r) (h1 : r < base b + lvl b 0) : bandOf r = b := by
  unfold bandOf
  match b with
  | 0 => simp only [base, lvl] at h0 h1; rw [if_pos (by omega)]
  | 1 => simp only [base, lvl] at h0 h1; rw [if_neg (by omega), if_pos (by omega)]
  | 2 => simp only [base, lvl] at h0 h1; rw [if_neg (by omega), if_neg (by omega)]

theorem bandOf_kept (b : Fin 3) (s : Fin 4) (c : Dev nD) {i : ℕ} (h : i < lvl b s) : bandOf (kept b s c + i) = b := by
  have := kept_mem b c s
  exact bandOf_mem b (by omega) (by omega)
theorem bandOf_sib (b : Fin 3) (s : Fin 4) (c : Dev nD) {i : ℕ} (h : i < lvl b s) : bandOf (sib b s c + i) = b := by
  have := sib_mem b c s
  exact bandOf_mem b (by omega) (by omega)

/-! ## The eighteen copies

A copy is a stage and a band: stages 0, 1, 2 are the sums' three exchanges, 3, 4, 5 the three that gather the result. -/

abbrev Cp : Type := Fin 6 × Fin 3

/-- The number of a copy's two semaphores in their arrays; -/
def num (p : Cp) : ℕ := if p.1.val < 3 then 3 * p.2.val + p.1.val else 9 + 3 * p.2.val + (p.1.val - 3)
/-- its place in the program's order; -/
def ord (p : Cp) : ℕ := 3 * p.1.val + p.2.val
/-- the axis it goes along; -/
def ax (p : Cp) : Fin 3 := axisOf p.2 (if p.1.val < 3 then p.1.val else 5 - p.1.val)
/-- the number of rows it moves; -/
def hgt (p : Cp) : ℕ := lvl p.2 (if p.1.val < 3 then p.1.val + 1 else 6 - p.1.val)
/-- the device it goes to (and the one it comes from). -/
def peer (p : Cp) (c : Dev nD) : Dev nD := flip (ax p) c

theorem num_lt (p : Cp) : num p < 18 := by revert p; decide
theorem ord_lt (p : Cp) : ord p < 18 := by revert p; decide
theorem ord_inj : Function.Injective ord := by decide +kernel
theorem peer_peer (p : Cp) (c : Dev nD) : peer p (peer p c) = c := flip_flip _ c

/-- What a device sends of a band at a stage of the sums is what its partner keeps; -/
theorem kept_flip (b : Fin 3) (c : Dev nD) : ∀ s : Fin 3, kept b (s + 1) (flip (axisOf b s) c) = sib b (s + 1) c := by
  revert b c; decide +kernel
theorem sib_flip (b : Fin 3) (c : Dev nD) : ∀ s : Fin 3, sib b (s + 1) (flip (axisOf b s) c) = kept b (s + 1) c := by
  revert b c; decide +kernel

/-- The device whose last region of a band a row lies in. -/
def owner (r : ℕ) : Dev nD := ((List.finRange 8).find? fun c => decide (kept (bandOf r) 3 c ≤ r ∧ r < kept (bandOf r) 3 c + lvl (bandOf r) 3)).getD 0

theorem owner_kept (b : Fin 3) (c : Dev nD) : ∀ i : Fin (lvl b 3), owner (kept b 3 c + i) = c := by
  revert b c; decide +kernel

theorem owner_eq (b : Fin 3) (c : Dev nD) {r : ℕ} (h0 : kept b 3 c ≤ r) (h1 : r < kept b 3 c + lvl b 3) : owner r = c := by
  have := owner_kept b c ⟨r - kept b 3 c, by omega⟩
  rwa [show kept b 3 c + (r - kept b 3 c) = r by omega] at this

/-! ## Regions as sets of indices -/

/-- The rows `a … a + h - 1` of a two-axis buffer. -/
def rowSet {n m : ℕ} (a h : ℕ) : Finset (⟨2, ![n, m]⟩ : Shape).Idx := Finset.univ.filter fun i => a ≤ (i 0).val ∧ (i 0).val < a + h
/-- The first `h` rows of the slot `b` of a three-axis buffer. -/
def slotSet {n m k : ℕ} (b h : ℕ) : Finset (⟨3, ![n, m, k]⟩ : Shape).Idx := Finset.univ.filter fun i => (i 0).val = b ∧ (i 1).val < h

theorem mem_rowSet {n m : ℕ} {a h : ℕ} {i : (⟨2, ![n, m]⟩ : Shape).Idx} : i ∈ rowSet a h ↔ a ≤ (i 0).val ∧ (i 0).val < a + h := by
  unfold rowSet; rw [Finset.mem_filter]; exact and_iff_right (Finset.mem_univ _)
theorem mem_slotSet {n m k : ℕ} {b h : ℕ} {i : (⟨3, ![n, m, k]⟩ : Shape).Idx} : i ∈ slotSet b h ↔ (i 0).val = b ∧ (i 1).val < h := by
  unfold slotSet; rw [Finset.mem_filter]; exact and_iff_right (Finset.mem_univ _)

/-- A rectangle of whole rows. -/
theorem unit_rowSet {n m h : ℕ} (off : Fin 2 → ℕ) (inb) (a : ℕ) (h0 : off 0 = a) (h1 : off 1 = 0) :
    (Rect.unit (s := ⟨2, ![n, m]⟩) off ![h, m] inb).set = rowSet a h := by
  ext i
  rw [Rect.mem_set_unit, mem_rowSet, Fin.forall_fin_two, h0, h1]
  refine ⟨fun hh => hh.1, fun hh => ⟨hh, Nat.zero_le _, ?_⟩⟩
  have := (i 1).isLt
  simpa using this

/-- A rectangle of rows of one slot. -/
theorem unit_slotSet {n m k h : ℕ} (b : ℕ) (off : Fin 3 → ℕ) (inb) (h0 : off 0 = b) (h1 : off 1 = 0) (h2 : off 2 = 0) :
    (Rect.unit (s := ⟨3, ![n, m, k]⟩) off ![1, h, k] inb).set = slotSet b h := by
  ext i
  rw [Rect.mem_set_unit, mem_slotSet]
  constructor
  · intro hh
    have a0 := hh 0; have a1 := hh 1
    simp [h0, h1] at a0 a1
    exact ⟨by omega, a1⟩
  · rintro ⟨e0, e1⟩ a
    have := (i 2).isLt
    match a with
    | 0 => simp [h0]; omega
    | 1 => simp [h1]; omega
    | 2 => simp [h2] at this ⊢; exact this

/-- Rows beside one another. -/
theorem rowSet_union {n m : ℕ} (a h k : ℕ) : (rowSet a h ∪ rowSet (a + h) k : Finset (⟨2, ![n, m]⟩ : Shape).Idx) = rowSet a (h + k) := by
  ext i; rw [Finset.mem_union, mem_rowSet, mem_rowSet, mem_rowSet]; omega
theorem rowSet_disjoint {n m : ℕ} {a h a' h' : ℕ} (hd : a + h ≤ a' ∨ a' + h' ≤ a) :
    Disjoint (rowSet a h : Finset (⟨2, ![n, m]⟩ : Shape).Idx) (rowSet a' h') := by
  rw [Finset.disjoint_left]; intro i; rw [mem_rowSet, mem_rowSet]; omega
theorem slotSet_disjoint {n m k : ℕ} {b h b' h' : ℕ} (hd : b ≠ b') :
    Disjoint (slotSet b h : Finset (⟨3, ![n, m, k]⟩ : Shape).Idx) (slotSet b' h') := by
  rw [Finset.disjoint_left]; intro i; rw [mem_slotSet, mem_slotSet]; omega

/-- The region of a band a device holds at a level, in the result buffer; and its sibling. -/
abbrev keptSet (b : Fin 3) (s : ℕ) (c : Dev nD) : Finset S768x768.Idx := rowSet (kept b s c) (lvl b s)
abbrev sibSet (b : Fin 3) (s : ℕ) (c : Dev nD) : Finset S768x768.Idx := rowSet (sib b s c) (lvl b s)

theorem kept_union (b : Fin 3) (c : Dev nD) (s : Fin 3) : keptSet b (s + 1) c ∪ sibSet b (s + 1) c = keptSet b s c := by
  obtain ⟨h | h, hl⟩ := halves b c s
  · unfold keptSet sibSet; rw [h.1, h.2, rowSet_union, hl, two_mul]
  · unfold keptSet sibSet; rw [h.1, h.2, Finset.union_comm, rowSet_union, hl, two_mul]
theorem kept_disjoint (b : Fin 3) (c : Dev nD) (s : Fin 3) : Disjoint (keptSet b (s + 1) c) (sibSet b (s + 1) c) := by
  obtain ⟨h | h, hl⟩ := halves b c s
  · exact rowSet_disjoint (by rw [h.1, h.2]; omega)
  · exact rowSet_disjoint (by rw [h.1, h.2]; omega)

/-! ## The program's offsets and devices -/

theorem dev1_eq (c : Dev nD) : (⟨k0_dev1 c, k0_dev1_lt c⟩ : Dev nD) = flip 0 c := by revert c; decide +kernel
theorem dev2_eq (c : Dev nD) : (⟨k0_dev2 c, k0_dev2_lt c⟩ : Dev nD) = flip 1 c := by revert c; decide +kernel
theorem dev3_eq (c : Dev nD) : (⟨k0_dev3 c, k0_dev3_lt c⟩ : Dev nD) = flip 2 c := by revert c; decide +kernel
theorem dev4_eq (c : Dev nD) : (⟨k0_dev4 c, k0_dev4_lt c⟩ : Dev nD) = peer (0, 0) c := by revert c; decide +kernel
theorem dev5_eq (c : Dev nD) : (⟨k0_dev5 c, k0_dev5_lt c⟩ : Dev nD) = peer (0, 1) c := by revert c; decide +kernel
theorem dev6_eq (c : Dev nD) : (⟨k0_dev6 c, k0_dev6_lt c⟩ : Dev nD) = peer (0, 2) c := by revert c; decide +kernel
theorem dev7_eq (c : Dev nD) : (⟨k0_dev7 c, k0_dev7_lt c⟩ : Dev nD) = peer (1, 0) c := by revert c; decide +kernel
theorem dev8_eq (c : Dev nD) : (⟨k0_dev8 c, k0_dev8_lt c⟩ : Dev nD) = peer (1, 1) c := by revert c; decide +kernel
theorem dev9_eq (c : Dev nD) : (⟨k0_dev9 c, k0_dev9_lt c⟩ : Dev nD) = peer (1, 2) c := by revert c; decide +kernel
theorem dev10_eq (c : Dev nD) : (⟨k0_dev10 c, k0_dev10_lt c⟩ : Dev nD) = peer (2, 0) c := by revert c; decide +kernel
theorem dev11_eq (c : Dev nD) : (⟨k0_dev11 c, k0_dev11_lt c⟩ : Dev nD) = peer (2, 1) c := by revert c; decide +kernel
theorem dev12_eq (c : Dev nD) : (⟨k0_dev12 c, k0_dev12_lt c⟩ : Dev nD) = peer (2, 2) c := by revert c; decide +kernel
theorem dev13_eq (c : Dev nD) : (⟨k0_dev13 c, k0_dev13_lt c⟩ : Dev nD) = peer (3, 0) c := by revert c; decide +kernel
theorem dev14_eq (c : Dev nD) : (⟨k0_dev14 c, k0_dev14_lt c⟩ : Dev nD) = peer (3, 1) c := by revert c; decide +kernel
theorem dev15_eq (c : Dev nD) : (⟨k0_dev15 c, k0_dev15_lt c⟩ : Dev nD) = peer (3, 2) c := by revert c; decide +kernel
theorem dev16_eq (c : Dev nD) : (⟨k0_dev16 c, k0_dev16_lt c⟩ : Dev nD) = peer (4, 0) c := by revert c; decide +kernel
theorem dev17_eq (c : Dev nD) : (⟨k0_dev17 c, k0_dev17_lt c⟩ : Dev nD) = peer (4, 1) c := by revert c; decide +kernel
theorem dev18_eq (c : Dev nD) : (⟨k0_dev18 c, k0_dev18_lt c⟩ : Dev nD) = peer (4, 2) c := by revert c; decide +kernel
theorem dev19_eq (c : Dev nD) : (⟨k0_dev19 c, k0_dev19_lt c⟩ : Dev nD) = peer (5, 0) c := by revert c; decide +kernel
theorem dev20_eq (c : Dev nD) : (⟨k0_dev20 c, k0_dev20_lt c⟩ : Dev nD) = peer (5, 1) c := by revert c; decide +kernel
theorem dev21_eq (c : Dev nD) : (⟨k0_dev21 c, k0_dev21_lt c⟩ : Dev nD) = peer (5, 2) c := by revert c; decide +kernel

theorem off1_eq (c : Dev nD) : k0_off1 c 0 = sib 0 1 c := by revert c; decide +kernel
theorem off2_eq (c : Dev nD) : k0_off2 c 0 = sib 1 1 c := by revert c; decide +kernel
theorem off3_eq (c : Dev nD) : k0_off3 c 0 = sib 2 1 c := by revert c; decide +kernel
theorem off4_eq (c : Dev nD) : k0_off4 c 0 = kept 0 1 c := by revert c; decide +kernel
theorem off5_eq (c : Dev nD) : k0_off5 c 0 = pbase 0 + (sib 0 2 c - kept 0 1 c) := by revert c; decide +kernel
theorem off6_eq (c : Dev nD) : k0_off6 c 0 = kept 1 1 c := by revert c; decide +kernel
theorem off7_eq (c : Dev nD) : k0_off7 c 0 = pbase 1 + (sib 1 2 c - kept 1 1 c) := by revert c; decide +kernel
theorem off8_eq (c : Dev nD) : k0_off8 c 0 = kept 2 1 c := by revert c; decide +kernel
theorem off9_eq (c : Dev nD) : k0_off9 c 0 = pbase 2 + (sib 2 2 c - kept 2 1 c) := by revert c; decide +kernel
theorem off10_eq (c : Dev nD) : k0_off10 c 0 = pbase 0 + (kept 0 2 c - kept 0 1 c) := by revert c; decide +kernel
theorem off11_eq (c : Dev nD) : k0_off11 c 0 = pbase 0 + (sib 0 3 c - kept 0 1 c) := by revert c; decide +kernel
theorem off12_eq (c : Dev nD) : k0_off12 c 0 = pbase 1 + (kept 1 2 c - kept 1 1 c) := by revert c; decide +kernel
theorem off13_eq (c : Dev nD) : k0_off13 c 0 = pbase 1 + (sib 1 3 c - kept 1 1 c) := by revert c; decide +kernel
theorem off14_eq (c : Dev nD) : k0_off14 c 0 = pbase 2 + (kept 2 2 c - kept 2 1 c) := by revert c; decide +kernel
theorem off15_eq (c : Dev nD) : k0_off15 c 0 = pbase 2 + (sib 2 3 c - kept 2 1 c) := by revert c; decide +kernel
theorem off16_eq (c : Dev nD) : k0_off16 c 0 = pbase 0 + (kept 0 3 c - kept 0 1 c) := by revert c; decide +kernel
theorem off17_eq (c : Dev nD) : k0_off17 c 0 = kept 0 3 c := by revert c; decide +kernel
theorem off18_eq (c : Dev nD) : k0_off18 c 0 = kept 0 3 c := by revert c; decide +kernel
theorem off19_eq (c : Dev nD) : k0_off19 c 0 = pbase 1 + (kept 1 3 c - kept 1 1 c) := by revert c; decide +kernel
theorem off20_eq (c : Dev nD) : k0_off20 c 0 = kept 1 3 c := by revert c; decide +kernel
theorem off21_eq (c : Dev nD) : k0_off21 c 0 = kept 1 3 c := by revert c; decide +kernel
theorem off22_eq (c : Dev nD) : k0_off22 c 0 = pbase 2 + (kept 2 3 c - kept 2 1 c) := by revert c; decide +kernel
theorem off23_eq (c : Dev nD) : k0_off23 c 0 = kept 2 3 c := by revert c; decide +kernel
theorem off24_eq (c : Dev nD) : k0_off24 c 0 = kept 2 3 c := by revert c; decide +kernel
theorem off26_eq (c : Dev nD) : k0_off26 c 0 = kept 0 2 c := by revert c; decide +kernel
theorem off28_eq (c : Dev nD) : k0_off28 c 0 = kept 1 2 c := by revert c; decide +kernel
theorem off30_eq (c : Dev nD) : k0_off30 c 0 = kept 2 2 c := by revert c; decide +kernel
theorem off32_eq (c : Dev nD) : k0_off32 c 0 = kept 0 1 c := by revert c; decide +kernel
theorem off34_eq (c : Dev nD) : k0_off34 c 0 = kept 1 1 c := by revert c; decide +kernel
theorem off36_eq (c : Dev nD) : k0_off36 c 0 = kept 2 1 c := by revert c; decide +kernel

/-- The first half held of a band starts at or before every later region of it. -/
theorem kept_ge (b : Fin 3) (c : Dev nD) : ∀ s : Fin 4, 1 ≤ s.val → kept b 1 c ≤ kept b s c ∧ kept b s c + lvl b s ≤ kept b 1 c + lvl b 1 := by
  revert b c; decide +kernel
theorem sib_ge (b : Fin 3) (c : Dev nD) : ∀ s : Fin 4, 2 ≤ s.val → kept b 1 c ≤ sib b s c ∧ sib b s c + lvl b s ≤ kept b 1 c + lvl b 1 := by
  revert b c; decide +kernel

end Cert.Mlp

end
-- ==== Proof.Contents.lean ====
/-
  What every buffer of the kernel holds, as functions of the argument arrays: the partial sums `Y` after each of the three exchanges, the
  rows sent and landed, and the result; and the values the body's stores write, read at an index.
-/
module

public import proofs.«01_k».proof.Proof.Geometry
public import proofs.«01_k».proof.Proof.Gen.KernelIdeal.Skeleton

@[expose] public section

set_option maxRecDepth 8000

noncomputable section

namespace Cert.Mlp

open Cert.KernelIdeal Cert.KernelIdeal.Gen
open Idealize.ShloMosaic Idealize.ShloMosaic.ValueIdx

variable {F : FTy → Type} [FloatOps F]

/-- The arguments as each device holds them: the rows `x` and its slices of the two weight matrices. -/
structure Inp (F : FTy → Type) where
  x : Dev nD → Vec F S768x768 .f32
  w1 : Dev nD → Vec F S768x1536 .f32
  w2 : Dev nD → Vec F S1536x768 .f32

variable (D : Inp F)

/-- Narrowing one element, -/
abbrev nar (a : F .f32) : F .bf16 := FloatOps.truncf .bf16 bitsLt_bf16_f32 a
/-- and widening one. -/
abbrev wid (a : F .bf16) : F .f32 := FloatOps.extf .f32 bitsLt_bf16_f32 a

def XB (c : Dev nD) : Vec F S768x768 .bf16 := k0_pay1 (D.x c)
def W1B (c : Dev nD) : Vec F S768x1536 .bf16 := k0_pay2 (D.w1 c)
def W2B (c : Dev nD) : Vec F S1536x768 .bf16 := k0_pay3 (D.w2 c)

/-- The `n` rows of the narrowed `x` from row `a` on. -/
def blk (n : ℕ) (c : Dev nD) (a : ℕ) : Vec F ⟨2, ![n, 768]⟩ .bf16 :=
  fun i => XB D c (ix2 ⟨(a + (i 0).val) % 768, Nat.mod_lt _ (by decide)⟩ (i 1))

/-- A device's own part of the product at a row and a column, the row computed with the block the body computes it with. -/
def Y0 (c : Dev nD) (r : ℕ) (j : Fin 768) : F .f32 :=
  if r < 384 then k0_pay7 (blk D 192 c (r / 192 * 192)) (W1B D c) (W2B D c) (ix2 ⟨r % 192, Nat.mod_lt _ (by decide)⟩ j)
  else if r < 640 then k0_pay10 (blk D 128 c (r / 128 * 128)) (W1B D c) (W2B D c) (ix2 ⟨r % 128, Nat.mod_lt _ (by decide)⟩ j)
  else k0_pay14 (k0_pay13 (blk D 64 c (r / 64 * 64)) (W1B D c)) (W2B D c) (ix2 ⟨r % 64, Nat.mod_lt _ (by decide)⟩ j)

/-- The partial sum after `s` exchanges. -/
def Y : ℕ → Dev nD → ℕ → Fin 768 → F .f32
  | 0, c, r, j => Y0 D c r j
  | s + 1, c, r, j => FloatOps.addf (Y s c r j) (wid (nar (Y s (flip (axisOf (bandOf r) s) c) r j)))

/-- The rows a device sends at an exchange of the sums, one band a slot; -/
def SBf (n s : ℕ) (c : Dev nD) : Vec F ⟨3, ![3, n, 768]⟩ .bf16 := fun i => nar (Y D s c (sib (i 0) (s + 1) c + (i 1).val) (i 2))
/-- the rows that land at it; -/
def RSf (n s : ℕ) (c : Dev nD) : Vec F ⟨3, ![3, n, 768]⟩ .bf16 :=
  fun i => nar (Y D s (flip (axisOf (i 0) s) c) (kept (i 0) (s + 1) c + (i 1).val) (i 2))
/-- the partial sums of band `b` in the buffer of partial sums; -/
def PTf (b : Fin 3) (s : ℕ) (c : Dev nD) : Vec F S384x768 .f32 := fun i => Y D s c (kept b 1 c + ((i 0).val - pbase b)) (i 1)
/-- the narrowed result, the same on every device; -/
def RESf : Vec F S768x768 .bf16 := fun i => nar (Y D 3 (owner (i 0).val) (i 0).val (i 1))
/-- and the result. -/
def OUT : Vec F S768x768 .f32 := k0_pay30 (RESf D)

/-! ## Indices of the rectangles -/

/-- A row's index in the slot it is a row of, and back. -/
def intoSlot {n : ℕ} (x : (⟨2, ![n, 768]⟩ : Shape).Idx) : (⟨3, ![1, n, 768]⟩ : Shape).Idx := Fin.cons ⟨0, Nat.one_pos⟩ x
def ofSlot {n : ℕ} (x : (⟨3, ![1, n, 768]⟩ : Shape).Idx) : (⟨2, ![n, 768]⟩ : Shape).Idx := fun a => x a.succ

theorem emb2_0 {n m h : ℕ} (off : Fin 2 → ℕ) (inb) (x : (⟨2, ![h, m]⟩ : Shape).Idx) :
    ((Rect.unit (s := ⟨2, ![n, m]⟩) off ![h, m] inb).emb x 0).val = off 0 + (x 0).val := by
  rw [Rect.emb_apply]; exact congrArg (off 0 + ·) (Nat.one_mul _)
theorem emb2_1 {n m h : ℕ} (off : Fin 2 → ℕ) (inb) (x : (⟨2, ![h, m]⟩ : Shape).Idx) (h1 : off 1 = 0) :
    (Rect.unit (s := ⟨2, ![n, m]⟩) off ![h, m] inb).emb x 1 = x 1 := by
  apply Fin.ext
  rw [Rect.emb_apply]; show off 1 + 1 * (x 1).val = (x 1).val; rw [h1]; omega
theorem emb3_0 {n m k h : ℕ} (off : Fin 3 → ℕ) (inb) (x : (⟨3, ![1, h, k]⟩ : Shape).Idx) :
    ((Rect.unit (s := ⟨3, ![n, m, k]⟩) off ![1, h, k] inb).emb x 0).val = off 0 := by
  have : (x 0).val < 1 := (x 0).isLt
  rw [Rect.emb_apply]; show off 0 + 1 * (x 0).val = off 0; omega
theorem emb3_1 {n m k h : ℕ} (off : Fin 3 → ℕ) (inb) (x : (⟨3, ![1, h, k]⟩ : Shape).Idx) (h1 : off 1 = 0) :
    ((Rect.unit (s := ⟨3, ![n, m, k]⟩) off ![1, h, k] inb).emb x 1).val = (x 1).val := by
  rw [Rect.emb_apply]; show off 1 + 1 * (x 1).val = (x 1).val; rw [h1]; omega
theorem emb3_2 {n m k h : ℕ} (off : Fin 3 → ℕ) (inb) (x : (⟨3, ![1, h, k]⟩ : Shape).Idx) (h2 : off 2 = 0) :
    (Rect.unit (s := ⟨3, ![n, m, k]⟩) off ![1, h, k] inb).emb x 2 = x 2 := by
  apply Fin.ext
  rw [Rect.emb_apply]; show off 2 + 1 * (x 2).val = (x 2).val; rw [h2]; omega

/-! ## The elementwise payloads at an index -/

/-- Adding what landed. -/
theorem addLanded {n : ℕ} (v : FVec F ⟨2, ![n, 768]⟩ .f32) (v' : FVec F ⟨3, ![1, n, 768]⟩ .bf16) (h1) (h2) (x) :
    shapeCast (⟨2, ![n, 768]⟩ : Shape) (addf v (extf .f32 (shapeCast (⟨2, ![n, 768]⟩ : Shape) v' h1) bitsLt_bf16_f32)) h2 x
      = FloatOps.addf (v x) (wid (v' (intoSlot x))) := by
  rw [shapeCast_self]
  exact congrArg (fun t => FloatOps.addf (v x) (wid t)) (shapeCast_dropUnit_apply _ v' h1 x)

/-- Narrowing rows into a slot. -/
theorem narSlot {n : ℕ} (v : FVec F ⟨2, ![n, 768]⟩ .f32) (h1) (x) :
    shapeCast (⟨3, ![1, n, 768]⟩ : Shape) (truncf .bf16 v bitsLt_bf16_f32) h1 x = nar (v (ofSlot x)) :=
  shapeCast_addUnit_apply _ _ h1 x

/-- Narrowing rows. -/
theorem narRows {n : ℕ} (v : FVec F ⟨2, ![n, 768]⟩ .f32) (h1) (x) :
    shapeCast (⟨2, ![n, 768]⟩ : Shape) (truncf .bf16 v bitsLt_bf16_f32) h1 x = nar (v x) := by
  rw [shapeCast_self]; rfl

/-! ## The first products at an index -/

theorem blk_eq {n a : ℕ} (c : Dev nD) (off : Fin 2 → ℕ) (inb) (h0 : off 0 = a) (h1 : off 1 = 0) (hn : a + n ≤ 768) :
    (fun x => XB D c ((Rect.unit (s := S768x768) off ![n, 768] inb).emb x)) = blk D n c a := by
  funext x
  unfold blk
  congr 1
  rw [eq_ix2 ((Rect.unit (s := S768x768) off ![n, 768] inb).emb x)]
  congr 1
  · apply Fin.ext
    have : (x 0).val < n := (x 0).isLt
    rw [emb2_0, h0]; exact (Nat.mod_eq_of_lt (by omega)).symm
  · exact emb2_1 off inb x h1

theorem Y0_band0 (c : Dev nD) {a : ℕ} (ha : a = 0 ∨ a = 192) (x : S192x768.Idx) :
    k0_pay7 (blk D 192 c a) (W1B D c) (W2B D c) x = Y D 0 c (a + (x 0).val) (x 1) := by
  have hx : (x 0).val < 192 := (x 0).isLt
  show _ = Y0 D c _ _
  unfold Y0
  rw [if_pos (by omega), show (a + (x 0).val) / 192 * 192 = a by omega]
  conv_lhs => rw [eq_ix2 x]
  congr 2; apply Fin.ext; show (x 0).val = (a + (x 0).val) % 192; omega
theorem Y0_band1 (c : Dev nD) {a : ℕ} (ha : a = 384 ∨ a = 512) (x : S128x768.Idx) :
    k0_pay10 (blk D 128 c a) (W1B D c) (W2B D c) x = Y D 0 c (a + (x 0).val) (x 1) := by
  have hx : (x 0).val < 128 := (x 0).isLt
  show _ = Y0 D c _ _
  unfold Y0
  rw [if_neg (by omega), if_pos (by omega), show (a + (x 0).val) / 128 * 128 = a by omega]
  conv_lhs => rw [eq_ix2 x]
  congr 2; apply Fin.ext; show (x 0).val = (a + (x 0).val) % 128; omega
theorem Y0_band2 (c : Dev nD) {a : ℕ} (ha : a = 640 ∨ a = 704) (x : S64x768.Idx) :
    k0_pay14 (k0_pay13 (blk D 64 c a) (W1B D c)) (W2B D c) x = Y D 0 c (a + (x 0).val) (x 1) := by
  have hx : (x 0).val < 64 := (x 0).isLt
  show _ = Y0 D c _ _
  unfold Y0
  rw [if_neg (by omega), if_neg (by omega), show (a + (x 0).val) / 64 * 64 = a by omega]
  conv_lhs => rw [eq_ix2 x]
  congr 2; apply Fin.ext; show (x 0).val = (a + (x 0).val) % 64; omega

theorem pay4_apply (u : Vec F S192x768 .bf16) (w1 : Vec F S768x1536 .bf16) (w2 : Vec F S1536x768 .bf16) (x : S1x192x768.Idx) :
    k0_pay4 u w1 w2 x = nar (k0_pay7 u w1 w2 (ofSlot x)) := by
  unfold k0_pay4 k0_pay7; rw [shapeCast_self]; exact narSlot _ _ x
theorem pay5_apply (u : Vec F S128x768 .bf16) (w1 : Vec F S768x1536 .bf16) (w2 : Vec F S1536x768 .bf16) (x : S1x128x768.Idx) :
    k0_pay5 u w1 w2 x = nar (k0_pay10 u w1 w2 (ofSlot x)) := by
  unfold k0_pay5 k0_pay10; rw [shapeCast_self]; exact narSlot _ _ x
theorem pay6_apply (u : Vec F S64x768 .bf16) (w1 : Vec F S768x1536 .bf16) (w2 : Vec F S1536x768 .bf16) (x : S1x64x768.Idx) :
    k0_pay6 u w1 w2 x = nar (k0_pay14 (k0_pay13 u w1) w2 (ofSlot x)) := by
  unfold k0_pay6 k0_pay14 k0_pay13; rw [shapeCast_self]; exact narSlot _ _ x

theorem ends (c : Dev nD) : (sib 0 1 c = 0 ∨ sib 0 1 c = 192) ∧ (kept 0 1 c = 0 ∨ kept 0 1 c = 192)
    ∧ (sib 1 1 c = 384 ∨ sib 1 1 c = 512) ∧ (kept 1 1 c = 384 ∨ kept 1 1 c = 512)
    ∧ (sib 2 1 c = 640 ∨ sib 2 1 c = 704) ∧ (kept 2 1 c = 640 ∨ kept 2 1 c = 704) := by revert c; decide +kernel

/-! ## What the stores write

Each statement is of a vector the body stores, at an index of the rectangle it is stored through. -/

section Stores
variable (c : Dev nD)

/-- The first rows sent of a band: the narrowed product on the sibling half. -/
theorem slot0 {n : ℕ} (b : Fin 3) (w : Vec F ⟨3, ![1, n, 768]⟩ .bf16)
    (hw : ∀ x, w x = nar (Y D 0 c (sib b 1 c + (x 1).val) (x 2))) (off : Fin 3 → ℕ) (inb) (h0 : off 0 = b.val) (h1 : off 1 = 0) (h2 : off 2 = 0) (x) :
    w x = SBf D 192 0 c ((Rect.unit (s := S3x192x768) off ![1, n, 768] inb).emb x) := by
  unfold SBf
  rw [hw, emb3_1 off inb x h1, emb3_2 off inb x h2, show (Rect.unit (s := S3x192x768) off ![1, n, 768] inb).emb x 0 = b from Fin.ext ((emb3_0 off inb x).trans h0)]

theorem sb00 (inb1) (h1 : k0_off1 c 1 = 0) (inb) (x) :
    k0_pay4 (fun y => XB D c ((Rect.unit (s := S768x768) (k0_off1 c) ![192, 768] inb1).emb y)) (W1B D c) (W2B D c) x
      = SBf D 192 0 c ((Rect.unit (s := S3x192x768) ![0, 0, 0] ![1, 192, 768] inb).emb x) := by
  refine slot0 D c 0 _ (fun x => ?_) _ inb rfl rfl rfl x
  obtain ⟨h, -⟩ := ends c
  exact (pay4_apply _ _ _ x).trans (congrArg nar ((congrArg (fun u => k0_pay7 u (W1B D c) (W2B D c) (ofSlot x)) (blk_eq (n := 192) D c _ inb1 (off1_eq c) h1 (by omega))).trans (Y0_band0 D c h (ofSlot x))))
theorem sb10 (inb1) (h1 : k0_off2 c 1 = 0) (inb) (x) :
    k0_pay5 (fun y => XB D c ((Rect.unit (s := S768x768) (k0_off2 c) ![128, 768] inb1).emb y)) (W1B D c) (W2B D c) x
      = SBf D 192 0 c ((Rect.unit (s := S3x192x768) ![1, 0, 0] ![1, 128, 768] inb).emb x) := by
  refine slot0 D c 1 _ (fun x => ?_) _ inb rfl rfl rfl x
  obtain ⟨-, -, h, -⟩ := ends c
  exact (pay5_apply _ _ _ x).trans (congrArg nar ((congrArg (fun u => k0_pay10 u (W1B D c) (W2B D c) (ofSlot x)) (blk_eq (n := 128) D c _ inb1 (off2_eq c) h1 (by omega))).trans (Y0_band1 D c h (ofSlot x))))
theorem sb20 (inb1) (h1 : k0_off3 c 1 = 0) (inb) (x) :
    k0_pay6 (fun y => XB D c ((Rect.unit (s := S768x768) (k0_off3 c) ![64, 768] inb1).emb y)) (W1B D c) (W2B D c) x
      = SBf D 192 0 c ((Rect.unit (s := S3x192x768) ![2, 0, 0] ![1, 64, 768] inb).emb x) := by
  refine slot0 D c 2 _ (fun x => ?_) _ inb rfl rfl rfl x
  obtain ⟨-, -, -, -, h, -⟩ := ends c
  exact (pay6_apply _ _ _ x).trans (congrArg nar ((congrArg (fun u => k0_pay14 (k0_pay13 u (W1B D c)) (W2B D c) (ofSlot x)) (blk_eq (n := 64) D c _ inb1 (off3_eq c) h1 (by omega))).trans (Y0_band2 D c h (ofSlot x))))

/-- The first partial sums of a band. -/
theorem part0 {n : ℕ} (b : Fin 3) (w : Vec F ⟨2, ![n, 768]⟩ .f32)
    (hw : ∀ x, w x = Y D 0 c (kept b 1 c + (x 0).val) (x 1)) (off : Fin 2 → ℕ) (inb) (h0 : off 0 = pbase b) (h1 : off 1 = 0) (x) :
    w x = PTf D b 0 c ((Rect.unit (s := S384x768) off ![n, 768] inb).emb x) := by
  unfold PTf
  rw [hw, emb2_0 off inb x, emb2_1 off inb x h1, h0, Nat.add_sub_cancel_left]

theorem pt00 (inb1) (h1 : k0_off4 c 1 = 0) (inb) (x) :
    k0_pay7 (fun y => XB D c ((Rect.unit (s := S768x768) (k0_off4 c) ![192, 768] inb1).emb y)) (W1B D c) (W2B D c) x
      = PTf D 0 0 c ((Rect.unit (s := S384x768) ![0, 0] ![192, 768] inb).emb x) := by
  refine part0 D c 0 _ (fun x => ?_) _ inb rfl rfl x
  obtain ⟨-, h, -⟩ := ends c
  exact (congrArg (fun u => k0_pay7 u (W1B D c) (W2B D c) x) (blk_eq (n := 192) D c _ inb1 (off4_eq c) h1 (by omega))).trans (Y0_band0 D c h x)
theorem pt10 (inb1) (h1 : k0_off6 c 1 = 0) (inb) (x) :
    k0_pay10 (fun y => XB D c ((Rect.unit (s := S768x768) (k0_off6 c) ![128, 768] inb1).emb y)) (W1B D c) (W2B D c) x
      = PTf D 1 0 c ((Rect.unit (s := S384x768) ![192, 0] ![128, 768] inb).emb x) := by
  refine part0 D c 1 _ (fun x => ?_) _ inb rfl rfl x
  obtain ⟨-, -, -, h, -⟩ := ends c
  exact (congrArg (fun u => k0_pay10 u (W1B D c) (W2B D c) x) (blk_eq (n := 128) D c _ inb1 (off6_eq c) h1 (by omega))).trans (Y0_band1 D c h x)
theorem pt20 (inb1) (h1 : k0_off8 c 1 = 0) (inb) (x) :
    k0_pay14 (k0_pay13 (fun y => XB D c ((Rect.unit (s := S768x768) (k0_off8 c) ![64, 768] inb1).emb y)) (W1B D c)) (W2B D c) x
      = PTf D 2 0 c ((Rect.unit (s := S384x768) ![320, 0] ![64, 768] inb).emb x) := by
  refine part0 D c 2 _ (fun x => ?_) _ inb rfl rfl x
  obtain ⟨-, -, -, -, -, h⟩ := ends c
  exact (congrArg (fun u => k0_pay14 (k0_pay13 u (W1B D c)) (W2B D c) x) (blk_eq (n := 64) D c _ inb1 (off8_eq c) h1 (by omega))).trans (Y0_band2 D c h x)

/-- What exchange `s` of band `b` adds to the partial sums on the region held after it. -/
theorem addStep {n k : ℕ} (b : Fin 3) (s : Fin 3) (hn : n = lvl b (s + 1)) (off : Fin 2 → ℕ) (inb) (h0 : off 0 = pbase b + (kept b (s + 1) c - kept b 1 c)) (h1 : off 1 = 0)
    (off' : Fin 3 → ℕ) (inb') (h0' : off' 0 = b.val) (h1' : off' 1 = 0) (h2' : off' 2 = 0)
    (f : Vec F S384x768 .f32) (hf : ∀ i ∈ (rowSet (off 0) n : Finset S384x768.Idx), f i = PTf D b s c i)
    (x : (⟨2, ![n, 768]⟩ : Shape).Idx) :
    FloatOps.addf (f ((Rect.unit (s := S384x768) off ![n, 768] inb).emb x))
        (wid (RSf D k s c ((Rect.unit (s := ⟨3, ![3, k, 768]⟩) off' ![1, n, 768] inb').emb (intoSlot x))))
      = PTf D b (s + 1) c ((Rect.unit (s := S384x768) off ![n, 768] inb).emb x) := by
  have hx : (x 0).val < n := (x 0).isLt
  have hk := kept_ge b c s.succ (Nat.succ_pos _)
  have hk' : kept b 1 c ≤ kept b (s + 1) c := hk.1
  have hb : bandOf (kept b (s + 1) c + (x 0).val) = b := bandOf_kept b s.succ c (lt_of_lt_of_eq hx hn)
  rw [hf _ (by rw [mem_rowSet, emb2_0]; omega)]
  unfold RSf PTf
  rw [emb3_1 off' inb' _ h1', emb3_2 off' inb' _ h2',
    show (Rect.unit (s := ⟨3, ![3, k, 768]⟩) off' ![1, n, 768] inb').emb (intoSlot x) 0 = b from Fin.ext ((emb3_0 off' inb' _).trans h0')]
  rw [emb2_0, emb2_1 off inb x h1, h0, show kept b 1 c + (pbase b + (kept b (s + 1) c - kept b 1 c) + (x 0).val - pbase b) = kept b (s + 1) c + (x 0).val by omega]
  show _ = FloatOps.addf _ _
  rw [hb]; rfl

/-- The rows sent of band `b` at exchange `s`, from the partial sums. -/
theorem slotStep {n k : ℕ} (b : Fin 3) (s : Fin 3) (hs : 1 ≤ s.val) (hn : n = lvl b (s + 1)) (off : Fin 2 → ℕ) (inb) (h0 : off 0 = pbase b + (sib b (s + 1) c - kept b 1 c)) (h1 : off 1 = 0)
    (off' : Fin 3 → ℕ) (inb') (h0' : off' 0 = b.val) (h1' : off' 1 = 0) (h2' : off' 2 = 0)
    (f : Vec F S384x768 .f32) (hf : ∀ i ∈ (rowSet (off 0) n : Finset S384x768.Idx), f i = PTf D b s c i)
    (x : (⟨3, ![1, n, 768]⟩ : Shape).Idx) :
    nar (f ((Rect.unit (s := S384x768) off ![n, 768] inb).emb (ofSlot x)))
      = SBf D k s c ((Rect.unit (s := ⟨3, ![3, k, 768]⟩) off' ![1, n, 768] inb').emb x) := by
  have hx : (x 1).val < n := (x 1).isLt
  have hk := sib_ge b c s.succ (Nat.succ_le_succ hs)
  have hk' : kept b 1 c ≤ sib b (s + 1) c := hk.1
  rw [hf _ (by rw [mem_rowSet, emb2_0]; exact ⟨Nat.le_add_right _ _, Nat.add_lt_add_left hx _⟩)]
  unfold SBf PTf
  rw [emb3_1 off' inb' _ h1', emb3_2 off' inb' _ h2',
    show (Rect.unit (s := ⟨3, ![3, k, 768]⟩) off' ![1, n, 768] inb').emb x 0 = b from Fin.ext ((emb3_0 off' inb' _).trans h0')]
  rw [emb2_0, emb2_1 off inb _ h1, h0]
  show nar (Y D s c (kept b 1 c + (pbase b + (sib b (s + 1) c - kept b 1 c) + (x 1).val - pbase b)) (x 2)) = _
  rw [show kept b 1 c + (pbase b + (sib b (s + 1) c - kept b 1 c) + (x 1).val - pbase b) = sib b (s + 1) c + (x 1).val by omega]

/-- The rows of the result a device computes itself. -/
theorem resStep {n : ℕ} (b : Fin 3) (hn : n = lvl b 3) (off : Fin 2 → ℕ) (inb) (h0 : off 0 = pbase b + (kept b 3 c - kept b 1 c)) (h1 : off 1 = 0)
    (off' : Fin 2 → ℕ) (inb') (h0' : off' 0 = kept b 3 c) (h1' : off' 1 = 0)
    (f : Vec F S384x768 .f32) (hf : ∀ i ∈ (rowSet (off 0) n : Finset S384x768.Idx), f i = PTf D b 3 c i)
    (x : (⟨2, ![n, 768]⟩ : Shape).Idx) :
    nar (f ((Rect.unit (s := S384x768) off ![n, 768] inb).emb x)) = RESf D ((Rect.unit (s := S768x768) off' ![n, 768] inb').emb x) := by
  have hx : (x 0).val < n := (x 0).isLt
  have hk := (kept_ge b c 3 (by decide)).1
  have hk' : kept b 1 c ≤ kept b 3 c := hk
  rw [hf _ (by rw [mem_rowSet, emb2_0]; omega)]
  unfold RESf PTf
  rw [emb2_0, emb2_0, emb2_1 off inb x h1, emb2_1 off' inb' x h1', h0, h0', owner_eq b c (Nat.le_add_right _ _) (by omega),
    show kept b 1 c + (pbase b + (kept b 3 c - kept b 1 c) + (x 0).val - pbase b) = kept b 3 c + (x 0).val by omega]

/-- What a device sends at an exchange of the sums is what lands at its partner. -/
theorem landStep (b : Fin 3) (s : Fin 3) (n k : ℕ) (i : (⟨3, ![3, n, 768]⟩ : Shape).Idx) (h : (i 0).val = b.val) :
    SBf D n s c i = RSf D n s (flip (axisOf b s) c) i := by
  have hb : i 0 = b := Fin.ext h
  unfold SBf RSf
  rw [hb, flip_flip, kept_flip]

end Stores

end Cert.Mlp

end
-- ==== Proof.Protocol.lean ====
/-
  The protocol of the eighteen copies: the semaphore cells, what each copy hands over when it has left and when it has landed, what a
  device owes at each point, and one rule each for sending a copy, for waiting until it has landed and for waiting until it has left.
-/
module

public import proofs.«01_k».proof.Proof.Contents
public import proofs.«01_k».proof.Proof.Gen.KernelIdeal.Skeleton
public import proofs.«01_k».proof.Proof.Gen.KernelIdeal.Launch

@[expose] public section

noncomputable section

namespace Cert.Mlp

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline's and the copies' -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The barrier semaphore, -/
abbrev barS : Sem sig := (SemArray.scalar (sig.barrier 0 rfl) : Sems sig S_).sem
/-- and a copy's two: `true` the one it lands on, `false` the one it leaves on. -/
def dsem (k : Bool × Cp) : DmaSem sig := Fin.ofNat 40 ((if k.1 then 22 else 4) + num k.2)

/-- The semaphores of the protocol: the barrier's, and two for each copy. -/
abbrev Key : Type := Option (Bool × Cp)
def csem : Key → SemLoc sig
  | none => .reg barS
  | some k => .dma (dsem k)
abbrev osem (k : Bool × Cp) : SemLoc sig := .dma (dsem k)
abbrev kcell (ck : Dev nD × Key) : GSem nD τ sig := ((ck.1 : Thread nD τ), csem ck.2)
abbrev barCell (c : Dev nD) : GSem nD τ sig := kcell (c, none)
abbrev sendCell (p : Cp) (c : Dev nD) : GSem nD τ sig := kcell (c, some (false, p))
abbrev recvCell (p : Cp) (c : Dev nD) : GSem nD τ sig := kcell (c, some (true, p))

theorem dsem_inj : Function.Injective dsem := by decide +kernel
theorem csem_inj : Function.Injective csem := by
  intro a b h
  match a, b with
  | none, none => rfl
  | none, some k => cases h
  | some k, none => cases h
  | some k, some k' => exact congrArg some (dsem_inj (SemLoc.dma.inj h))
theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

/-- Which semaphore of the protocol a semaphore is, if any. -/
def keyOf (sm : SemLoc sig) : Option Key := Function.partialInv csem sm
theorem keyOf_csem (k : Key) : keyOf (csem k) = some k := Function.partialInv_left csem_inj k
theorem keyOf_none {sm : SemLoc sig} (h : ∀ k, csem k ≠ sm) : keyOf sm = none := by
  unfold keyOf Function.partialInv; exact dif_neg fun ⟨k, hk⟩ => h k hk

/-- What a copy of `h` rows credits. -/
def cr (h : ℕ) : ℕ := RefSig.tileCredit ⟨2, ![h, 768]⟩ .bf16

/-! ## What is handed over -/

variable (D : Inp F)

/-- The share of a region of the result buffer that goes with one of the copies reading it, and what is left. -/
abbrev sh0 : PosShare TreeShare := fullShare.left
abbrev sh1 : PosShare TreeShare := fullShare.right.left
abbrev sh2 : PosShare TreeShare := fullShare.right.right.left
abbrev sh3 : PosShare TreeShare := fullShare.right.right.right

/-- What a device has back of a copy once it has left: the rows it was made from. -/
def sendPay : Cp → Dev nD → sProp 𝕄
  | (0, b), c => ((c : Thread nD τ).loc cc0_scratch5) ↦[(slotSet b.val (lvl b 1) : Finset S3x192x768.Idx)]{fullShare} SBf D 192 0 c
  | (1, b), c => ((c : Thread nD τ).loc cc0_scratch6) ↦[(slotSet b.val (lvl b 2) : Finset S3x96x768.Idx)]{fullShare} SBf D 96 1 c
  | (2, b), c => ((c : Thread nD τ).loc cc0_scratch7) ↦[(slotSet b.val (lvl b 3) : Finset S3x48x768.Idx)]{fullShare} SBf D 48 2 c
  | (3, b), c => ((c : Thread nD τ).loc cc0_scratch1) ↦[keptSet b 3 c]{sh0} RESf D
  | (4, b), c => ((c : Thread nD τ).loc cc0_scratch1) ↦[keptSet b 2 c]{sh1} RESf D
  | (5, b), c => ((c : Thread nD τ).loc cc0_scratch1) ↦[keptSet b 1 c]{sh2} RESf D

/-- What a device gets of a copy to it once it has landed: the rows it filled. -/
def recvPay : Cp → Dev nD → sProp 𝕄
  | (0, b), c => ((c : Thread nD τ).loc cc0_scratch2) ↦[(slotSet b.val (lvl b 1) : Finset S3x192x768.Idx)]{fullShare} RSf D 192 0 c
  | (1, b), c => ((c : Thread nD τ).loc cc0_scratch3) ↦[(slotSet b.val (lvl b 2) : Finset S3x96x768.Idx)]{fullShare} RSf D 96 1 c
  | (2, b), c => ((c : Thread nD τ).loc cc0_scratch4) ↦[(slotSet b.val (lvl b 3) : Finset S3x48x768.Idx)]{fullShare} RSf D 48 2 c
  | (3, b), c => ((c : Thread nD τ).loc cc0_scratch1) ↦[sibSet b 3 c]{fullShare} RESf D
  | (4, b), c => ((c : Thread nD τ).loc cc0_scratch1) ↦[sibSet b 2 c]{fullShare} RESf D
  | (5, b), c => ((c : Thread nD τ).loc cc0_scratch1) ↦[sibSet b 1 c]{fullShare} RESf D

/-- Those rows before, with whatever they hold. -/
def landAny : Cp → Dev nD → sProp 𝕄
  | (0, b), c => iprop(∃ f : Vec F S3x192x768 .bf16, ((c : Thread nD τ).loc cc0_scratch2) ↦[(slotSet b.val (lvl b 1) : Finset S3x192x768.Idx)]{fullShare} f)
  | (1, b), c => iprop(∃ f : Vec F S3x96x768 .bf16, ((c : Thread nD τ).loc cc0_scratch3) ↦[(slotSet b.val (lvl b 2) : Finset S3x96x768.Idx)]{fullShare} f)
  | (2, b), c => iprop(∃ f : Vec F S3x48x768 .bf16, ((c : Thread nD τ).loc cc0_scratch4) ↦[(slotSet b.val (lvl b 3) : Finset S3x48x768.Idx)]{fullShare} f)
  | (3, b), c => iprop(∃ f : Vec F S768x768 .bf16, ((c : Thread nD τ).loc cc0_scratch1) ↦[sibSet b 3 c]{fullShare} f)
  | (4, b), c => iprop(∃ f : Vec F S768x768 .bf16, ((c : Thread nD τ).loc cc0_scratch1) ↦[sibSet b 2 c]{fullShare} f)
  | (5, b), c => iprop(∃ f : Vec F S768x768 .bf16, ((c : Thread nD τ).loc cc0_scratch1) ↦[sibSet b 1 c]{fullShare} f)

/-- What the barrier signal along an axis hands device `c`: the partner's rows that `c`'s copies along the axis land in. -/
def barPay (a : Fin 3) (c : Dev nD) : sProp 𝕄 := bigSep Finset.univ fun p : Cp => if ax p = a then landAny p (flip a c) else iprop(emp)

instance sendPay_storable (p : Cp) (c : Dev nD) : BI.Storable (upEmb : UEmb _ 𝕄) (sendPay D p c) := by
  unfold sendPay; split <;> infer_instance
instance recvPay_storable (p : Cp) (c : Dev nD) : BI.Storable (upEmb : UEmb _ 𝕄) (recvPay D p c) := by
  unfold recvPay; split <;> infer_instance
instance landAny_storable (p : Cp) (c : Dev nD) : BI.Storable (upEmb : UEmb _ 𝕄) (landAny (F := F) p c) := by
  unfold landAny; split <;> infer_instance
instance barPay_storable (a : Fin 3) (c : Dev nD) : BI.Storable (upEmb : UEmb _ 𝕄) (barPay (F := F) a c) := by
  unfold barPay
  have (p : Cp) : BI.Storable (upEmb : UEmb _ 𝕄) (if ax p = a then landAny (F := F) p (flip a c) else iprop(emp)) := by split <;> infer_instance
  infer_instance

/-! ## The schedule -/

theorem cr_pos (p : Cp) : 0 < cr (hgt p) := RefSig.tileCredit_pos _ _ (by revert p; decide +kernel)

/-- Every cell has one round. A barrier cell is signalled once along each axis; a copy's cells are credited once, with its rows. -/
def rd : Rounds.Schedule (GSem nD τ sig) (Fin 3) 𝕄 where
  duties g r := if r = 0 ∧ g.1.2 = .tc then (match keyOf g.2 with | some none => Finset.univ | some (some _) => {0} | none => ∅) else ∅
  unitless _ := False
  amount g _ _ := match keyOf g.2 with | some (some k) => cr (hgt k.2) | _ => 1
  payload g _ d := match keyOf g.2 with
    | some none => barPay d g.1.1
    | some (some (false, p)) => sendPay D p g.1.1
    | some (some (true, p)) => recvPay D p g.1.1
    | none => iprop(emp)
  amount_pos g _ _ _ := by
    split
    · exact cr_pos _
    · exact Nat.one_pos

instance rd_storable (g : GSem nD τ sig) (r : ℕ) (d : Fin 3) : BI.Storable (upEmb : UEmb _ 𝕄) ((rd D).payload g r d) := by
  dsimp only [rd]
  split <;> infer_instance

section Lookup
variable (c : Dev nD) (k : Bool × Cp)

theorem duties_bar : (rd D).duties (barCell c) 0 = Finset.univ := by
  dsimp only [rd]; rw [if_pos ⟨rfl, rfl⟩, keyOf_csem]
theorem duties_dma : (rd D).duties (kcell (c, some k)) 0 = {0} := by
  dsimp only [rd]; rw [if_pos ⟨rfl, rfl⟩, keyOf_csem]
theorem duties_later (g : GSem nD τ sig) : ∀ r, 1 ≤ r → (rd D).duties g r = ∅ :=
  fun r hr => by dsimp only [rd]; exact if_neg fun h => by omega
theorem amount_bar (d : Fin 3) : (rd D).amount (barCell c) 0 d = 1 := by dsimp only [rd]; rw [keyOf_csem]
theorem amount_dma (d : Fin 3) : (rd D).amount (kcell (c, some k)) 0 d = cr (hgt k.2) := by dsimp only [rd]; rw [keyOf_csem]
theorem payload_bar (d : Fin 3) : (rd D).payload (barCell c) 0 d = barPay d c := by dsimp only [rd]; rw [keyOf_csem]
theorem payload_send (p : Cp) (d : Fin 3) : (rd D).payload (sendCell p c) 0 d = sendPay D p c := by dsimp only [rd]; rw [keyOf_csem]
theorem payload_recv (p : Cp) (d : Fin 3) : (rd D).payload (recvCell p c) 0 d = recvPay D p c := by dsimp only [rd]; rw [keyOf_csem]

theorem expect_bar : (rd D).expect (barCell c) 0 = 3 := by
  unfold Schedule.expect Schedule.amountOf
  rw [duties_bar, Finset.sum_congr rfl fun d _ => amount_bar D c d, Finset.sum_const, Finset.card_univ, Fintype.card_fin, smul_eq_mul]
theorem expect_dma : (rd D).expect (kcell (c, some k)) 0 = cr (hgt k.2) := by
  unfold Schedule.expect Schedule.amountOf; rw [duties_dma, Finset.sum_singleton, amount_dma]

theorem rest_bar : bigSep ((rd D).duties (barCell c) 0 \ ∅) (fun d => (rd D).payload (barCell c) 0 d) = bigSep Finset.univ fun a => barPay a c := by
  rw [Finset.sdiff_empty, duties_bar]; exact bigSep_congr fun d _ => payload_bar D c d
theorem rest_send (p : Cp) : bigSep ((rd D).duties (sendCell p c) 0 \ ∅) (fun d => (rd D).payload (sendCell p c) 0 d) = sendPay D p c := by
  rw [Finset.sdiff_empty, duties_dma, bigSep_singleton, payload_send]
theorem rest_recv (p : Cp) : bigSep ((rd D).duties (recvCell p c) 0 \ ∅) (fun d => (rd D).payload (recvCell p c) 0 d) = recvPay D p c := by
  rw [Finset.sdiff_empty, duties_dma, bigSep_singleton, payload_recv]

theorem only3 (P : sProp 𝕄) : iprop(P ∗ emp ∗ emp) = P ∧ iprop(emp ∗ P ∗ emp) = P ∧ iprop(emp ∗ emp ∗ P) = P := by
  have h1 : iprop(emp ∗ P) = P := BI.Entails.antisymm (emp_sep (PROP := sProp 𝕄)).1 (emp_sep (PROP := sProp 𝕄)).2
  have h2 : iprop(P ∗ emp) = P := BI.Entails.antisymm (sep_emp (PROP := sProp 𝕄)).1 (sep_emp (PROP := sProp 𝕄)).2
  have h3 : iprop(emp ∗ emp) = (iprop(emp) : sProp 𝕄) := BI.Entails.antisymm (sep_emp (PROP := sProp 𝕄)).1 (sep_emp (PROP := sProp 𝕄)).2
  exact ⟨by rw [h3, h2], by rw [h2, h1], by rw [h1, h1]⟩

/-- The three signals' payloads together are, for every copy of the device's, the rows it lands in. -/
theorem barPays : (bigSep Finset.univ fun a => (barPay a c : sProp 𝕄)) = bigSep Finset.univ fun p : Cp => landAny p (peer p c) := by
  unfold barPay
  rw [bigSep_univ_comm]
  refine bigSep_congr fun p _ => ?_
  rw [bigSep_univ_eq_bigSepL [0, 1, 2] (by decide) (by decide), bigSepL_cons_cons, bigSepL_cons_cons, bigSepL_singleton]
  unfold peer
  rcases (by revert p; decide : ∀ p : Cp, ax p = 0 ∨ ax p = 1 ∨ ax p = 2) p with h | h | h <;> rw [h]
  · rw [if_pos rfl, if_neg (by decide), if_neg (by decide)]; exact (only3 _).1
  · rw [if_pos rfl, if_neg (by decide), if_neg (by decide)]; exact (only3 _).2.1
  · rw [if_pos rfl, if_neg (by decide), if_neg (by decide)]; exact (only3 _).2.2

end Lookup

/-! ## What is owed; levels -/

/-- What a device owes before its copy number `n`: the credits of the copies from that one on. -/
def owedFrom (c : Dev nD) (n : ℕ) : CellTallies nD τ sig Unit :=
  ∑ p : Cp, if n ≤ ord p then tallyAt (recvCell p (peer p c)) () (cr (hgt p)) else 0

/-- What it owes at launch: those of all the copies, and a barrier signal along each axis. -/
def owed₂ (c : Dev nD) : CellTallies nD τ sig Unit := owedFrom c 0 + tallyAt (barCell (flip 2 c)) () 1
def owed₁ (c : Dev nD) : CellTallies nD τ sig Unit := owed₂ c + tallyAt (barCell (flip 1 c)) () 1
def owed₀ (c : Dev nD) : CellTallies nD τ sig Unit := owed₁ c + tallyAt (barCell (flip 0 c)) () 1

theorem owedFrom_send (c : Dev nD) (p : Cp) :
    owedFrom c (ord p) = owedFrom c (ord p + 1) + tallyAt (recvCell p (peer p c)) () (cr (hgt p)) := by
  unfold owedFrom
  rw [← Finset.sum_ite_eq' Finset.univ p (fun p' => tallyAt (recvCell p' (peer p' c)) () (cr (hgt p')))|>.trans (if_pos (Finset.mem_univ p)),
    ← Finset.sum_add_distrib]
  refine Finset.sum_congr rfl fun p' _ => ?_
  by_cases h : p' = p
  · subst h; rw [if_pos (le_refl _), if_neg (by omega), if_pos rfl, zero_add]
  · have h' : ord p' ≠ ord p := fun e => h (ord_inj e)
    rw [if_neg h, add_zero]
    by_cases hl : ord p ≤ ord p'
    · rw [if_pos hl, if_pos (by omega)]
    · rw [if_neg hl, if_neg (by omega)]

theorem owedFrom_end (c : Dev nD) : owedFrom c 18 = 0 := by
  unfold owedFrom
  exact Finset.sum_eq_zero fun p _ => if_neg (by have := ord_lt p; omega)

theorem owedFrom_pos {c : Dev nD} {n : ℕ} {g : GSem nD τ sig} {u : Unit} (h : 0 < owedFrom c n g u) : ∃ p, n ≤ ord p ∧ g = recvCell p (peer p c) := by
  obtain ⟨p, -, hp⟩ := Pipeline.sum_pos_exists h
  by_cases hn : n ≤ ord p
  · rw [if_pos hn] at hp; exact ⟨p, hn, (Pipeline.tallyAt_pos hp).1⟩
  · rw [if_neg hn] at hp; exact absurd hp (Nat.lt_irrefl 0)

def L (g : GSem nD τ sig) : Finset Unit := if g.1.2 = .tc then {()} else ∅
/-- The barrier cells come first, then the cells copies land on, in the program's order. -/
def lv (g : GSem nD τ sig) (_ : Unit) : ℕ := match keyOf g.2 with
  | some none => 1
  | some (some (true, p)) => 2 + ord p
  | _ => 0

theorem L_of_ne (g : GSem nD τ sig) (h : g.1.2 ≠ .tc) : L g = ∅ := if_neg h
theorem L_tc (c : Dev nD) (sm : SemLoc sig) : () ∈ L ((c : Thread nD τ), sm) := by
  unfold L; rw [if_pos rfl]; exact Finset.mem_singleton_self _
theorem lv_bar (c : Dev nD) : lv (barCell c) () = 1 := by unfold lv; rw [keyOf_csem]
theorem lv_recv (c : Dev nD) (p : Cp) : lv (recvCell p c) () = 2 + ord p := by unfold lv; rw [keyOf_csem]

theorem mayWait_bar (c : Dev nD) : (levAts L lv : sProp 𝕄) ⊢ MayWait (c : Thread nD τ) (csem none) () (owedFrom c 0) :=
  Pipeline.mayWait_of_levAts (L_tc c _) fun g u h => by
    obtain ⟨p, -, rfl⟩ := owedFrom_pos h
    exact ⟨L_tc _ _, by rw [lv_bar, lv_recv]; omega⟩
theorem mayWait_recv (c : Dev nD) (p : Cp) (n : ℕ) (hn : ord p < n) :
    (levAts L lv : sProp 𝕄) ⊢ MayWait (c : Thread nD τ) (csem (some (true, p))) () (owedFrom c n) :=
  Pipeline.mayWait_of_levAts (L_tc c _) fun g u h => by
    obtain ⟨p', hp, rfl⟩ := owedFrom_pos h
    exact ⟨L_tc _ _, by rw [lv_recv, lv_recv]; omega⟩
theorem mayWait_launch (c : Dev nD) (sm : SemLoc sig) (h : ∀ k, csem k ≠ sm) : (levAts L lv : sProp 𝕄) ⊢ MayWait (c : Thread nD τ) sm () (owed₀ c) :=
  Pipeline.mayWait_of_levAts (L_tc c _) fun g u hg => by
    rw [show lv ((c : Thread nD τ), sm) () = 0 by unfold lv; rw [keyOf_none h]]
    rcases Pipeline.add_pos_cases hg with hg | hg
    · rcases Pipeline.add_pos_cases hg with hg | hg
      · rcases Pipeline.add_pos_cases hg with hg | hg
        · obtain ⟨p', hp, rfl⟩ := owedFrom_pos hg
          exact ⟨L_tc _ _, by rw [lv_recv]; omega⟩
        · rw [(Pipeline.tallyAt_pos hg).1]; exact ⟨L_tc _ _, by rw [lv_bar]; decide⟩
      · rw [(Pipeline.tallyAt_pos hg).1]; exact ⟨L_tc _ _, by rw [lv_bar]; decide⟩
    · rw [(Pipeline.tallyAt_pos hg).1]; exact ⟨L_tc _ _, by rw [lv_bar]; decide⟩

/-! ## The rules -/

abbrev 𝒱₀ : Variants := Variants.none

/-- The invariants of all the cells, under the names `K`, that each has reached its round, and the levels. -/
def records (K : Dev nD × Key → ℕ) : sProp 𝕄 :=
  iprop((bigSep Finset.univ fun ck : Dev nD × Key => cellInv ER (rd D) (K ck) (kcell ck))
    ∗ (bigSep Finset.univ fun ck : Dev nD × Key => reached ER (kcell ck) 0) ∗ levAts L lv)

instance records_persistent (K : Dev nD × Key → ℕ) : BI.Persistent (records D K) := by unfold records; infer_instance

theorem inv_at (K : Dev nD × Key → ℕ) (ck : Dev nD × Key) : records D K ⊢ cellInv ER (rd D) (K ck) (kcell ck) := by
  unfold records; iintro ⟨H, -, -⟩
  iapply (show (bigSep Finset.univ fun ck : Dev nD × Key => (cellInv ER (rd D) (K ck) (kcell ck) : sProp 𝕄)) ⊢ cellInv ER (rd D) (K ck) (kcell ck) from
    bigSep_elim (Finset.mem_univ ck)); iexact H
theorem reached_at (K : Dev nD × Key → ℕ) (ck : Dev nD × Key) : records D K ⊢ reached ER (kcell ck) 0 := by
  unfold records; iintro ⟨-, H, -⟩
  iapply (show (bigSep Finset.univ fun ck : Dev nD × Key => (reached ER (kcell ck) 0 : sProp 𝕄)) ⊢ reached ER (kcell ck) 0 from
    bigSep_elim (Finset.mem_univ ck)); iexact H
theorem lev_at (K : Dev nD × Key → ℕ) : records D K ⊢ levAts L lv := by
  unfold records; iintro ⟨-, -, H⟩; iexact H

/-- What a device holds for a copy it has yet to send, -/
def todo (p : Cp) (c : Dev nD) : sProp 𝕄 :=
  iprop(landAny p (peer p c) ∗ dutyTok ER (sendCell p c) 0 0 ∗ dutyTok ER (recvCell p (peer p c)) 0 0 ∗ atPos ER (sendCell p c) 0 ∅ 0)
/-- for one it has sent, -/
def inFlight (p : Cp) (c : Dev nD) : sProp 𝕄 := iprop(cred (tallyAt (sendCell p c) () (cr (hgt p))) ∗ atPos ER (sendCell p c) 0 ∅ 0)
/-- and for one to it that is to land. -/
def await (p : Cp) (c : Dev nD) : sProp 𝕄 := iprop(cred (tallyAt (recvCell p c) () (cr (hgt p))) ∗ atPos ER (recvCell p c) 0 ∅ 0)
/-- It owes the credits of the copies from number `n` on. -/
def OW (c : Dev nD) (n : ℕ) : sProp 𝕄 := iprop(∃ W : Waits sig Unit, owes (c : Thread nD τ) (owedFrom c n) W)

section Rules
variable (K : Dev nD × Key → ℕ) (c : Dev nD) {α : Type} {k : PUnit → Prog (TpuEff nD τ sig (Elt F) Λ₀ .tc) α}

/-- Signalling the barrier along an axis: the partner is handed the rows its copies along it land in. -/
theorem signal_step {Q : α → sProp 𝕄} (a : Fin 3) (n : Dev nD) (hn : n = flip a c) (O : CellTallies nD τ sig Unit) (k' : ℤ) (hk' : k' = ((1 : ℕ) : ℤ)) (W : Waits sig Unit) :
    iprop(records D K ∗ owes (c : Thread nD τ) (O + tallyAt (barCell (flip a c)) () 1) W ∗ dutyTok ER (barCell (flip a c)) 0 a ∗ barPay a (flip a c))
      ⊢ iprop((owes (c : Thread nD τ) O W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc n : Thread nD τ) barS k') k) Q) := by
  subst hn hk'
  iintro ⟨#HR, HO, Ht, Hp⟩
  iapply (Rounds.wp_signal 𝒱₀ ER (rd D) (c : Thread nD τ) none (dst := (flip a c : Thread nD τ)) (sem := barS) (κ := K (flip a c, none))
    (d := a) (by rw [show ((flip a c : Thread nD τ), SemLoc.reg barS) = barCell (flip a c) from rfl, duties_bar]; exact Finset.mem_univ _)
    (amount_bar D (flip a c) a) () O rfl)
  isplitr; · iapply (inv_at D K (flip a c, none)); iexact HR
  isplitl [HO]; · iexact HO
  isplitl [Ht]; · iexact Ht
  isplitl [Hp]; · iapply (show barPay a (flip a c) ⊢ (rd D).payload ((flip a c : Thread nD τ), SemLoc.reg barS) 0 a from Entails.of_eq (payload_bar D (flip a c) a).symm); iexact Hp
  iapply (reached_at D K (flip a c, none)); iexact HR

/-- Waiting for the three signals: the rows the device's copies land in, on every partner. -/
theorem bar_wait {Q : α → sProp 𝕄} (k' : ℤ) (hk' : k' = ((3 : ℕ) : ℤ)) (W : Waits sig Unit) :
    iprop(records D K ∗ owes (c : Thread nD τ) (owedFrom c 0) W ∗ cred (tallyAt (barCell c) () 3) ∗ atPos ER (barCell c) 0 ∅ 0)
      ⊢ iprop(((OW c 0 ∗ semVal (barCell c) 0 ∗ bigSep Finset.univ fun p : Cp => landAny p (peer p c))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS k') k) Q) := by
  subst hk'
  iintro ⟨#HR, HO, Hc, Hat⟩ Hk
  iapply (Rounds.wp_wait_rest_token 𝒱₀ ER (rd D) (c : Thread nD τ) none (sm := csem none) (κ := K (c, none))
      (wpE_semWait_eq 𝒱₀ (c : Thread nD τ) none Set.univ) (Set.mem_univ _) () (O := owedFrom c 0) (W := W) (R := 0) (m := 0) (T := ∅)
      (by rw [Nat.zero_add]; exact (expect_bar D c).symm)) $$ [HO Hc Hat]
  · isplitr; · iapply (inv_at D K (c, none)); iexact HR
    isplitl [Hc]; · iexact Hc
    isplitl [HO]; · iexact HO
    isplitr; · iapply (mayWait_bar c); iapply (lev_at D K); iexact HR
    iexact Hat
  iintro ⟨HO, Hat, -, Hp⟩
  imod (Rounds.cell_close ER (rd D) (Set.mem_univ (K (c, none))) (fun h => h) (R := 0 + 1) (duties_later D (barCell c))) $$ [Hat] with Hz
  · isplitr; · iapply (inv_at D K (c, none)); iexact HR
    iexact Hat
  iapply Hk
  isplitl [HO]; · unfold OW; iexists _; iexact HO
  isplitl [Hz]; · iexact Hz
  iapply (Entails.of_eq ((rest_bar D c).trans (barPays c))); iexact Hp

/-- Sending a copy: what it is made from goes, until it has left; where it lands is filled. -/
theorem send_step {Q : α → sProp 𝕄} (p : Cp) (n : Dev nD) (hn : n = peer p c) {s : Shape} {e : EltTy} {src dst : Memref sig .tc .vmem s e} {sS sR : DmaSem sig}
    (hS : sS = dsem (false, p)) (hR : sR = dsem (true, p))
    {hsc : dst.view.ref.isScScratch = false} {hsrc : src.view.WordExact} {hdst : dst.view.WordExact}
    {hsem : DmaTarget.Typed .vmem (.dma sR) (.remote (Dev.tc n : Thread nD τ) dst (.dma sS) hsc)}
    (hN : dst.view.dmaCredit = cr (hgt p)) {q : PosShare TreeShare} (fs : Buf (Elt F) (src.view.loc (c : Thread nD τ)))
    (h1 : (sendPay D p c : sProp 𝕄) = (src.view.loc (c : Thread nD τ) ↦[src.view.set]{q} fs))
    (h2 : (landAny p (peer p c) : sProp 𝕄) = iprop(∃ fd, (dst.view.loc (peer p c : Thread nD τ) ↦[dst.view.set]{fullShare} fd)))
    (h3 : ∀ fd, (dst.view.loc (peer p c : Thread nD τ) ↦[dst.view.set]{fullShare} dst.view.write (Elt F) fd (src.view.read (Elt F) fs) Finset.univ : sProp 𝕄)
      = recvPay D p (peer p c)) :
    iprop(records D K ∗ todo p c ∗ sendPay D p c ∗ OW c (ord p))
      ⊢ iprop(((inFlight p c ∗ OW c (ord p + 1)) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.remote (Dev.tc n : Thread nD τ) dst (.dma sS) hsc) (.dma sR) hsrc hdst hsem) k) Q) := by
  subst hn hS hR
  unfold todo OW
  rw [h1, h2]
  iintro ⟨#HR, ⟨⟨%fd, Hd⟩, Ht1, Ht2, Hat⟩, Hs, ⟨%W, HO⟩⟩ Hk
  iapply (Rounds.wp_send_pointsTo 𝒱₀ ER (rd D) (c : Thread nD τ) none (c' := (peer p c : Thread nD τ)) (sS := csem (some (false, p))) (sem := csem (some (true, p)))
    (κ₁ := K (c, some (false, p))) (κ₂ := K (peer p c, some (true, p)))
    (r₁ := 0) (r₂ := 0) (d₁ := 0) (d₂ := 0) (fd := fd)
    (by rw [duties_dma]; exact Finset.mem_singleton_self _) (by rw [duties_dma]; exact Finset.mem_singleton_self _)
    () () (cr (hgt p)) hN (amount_dma D c (false, p) 0) (amount_dma D (peer p c) (true, p) 0) (owedFrom c (ord p + 1)) (owedFrom_send c p) (W := W)
    (by rw [payload_send, h1]) (by rw [payload_recv, h3 fd])) $$ [Hd Ht1 Ht2 Hs HO]
  · isplitr; · iapply (inv_at D K (c, some (false, p))); iexact HR
    isplitr; · iapply (inv_at D K (peer p c, some (true, p))); iexact HR
    isplitl [Hs]; · iexact Hs
    isplitl [Hd]; · iexact Hd
    isplitl [HO]; · iexact HO
    isplitl [Ht1]; · iexact Ht1
    isplitr; · iapply (reached_at D K (c, some (false, p))); iexact HR
    isplitl [Ht2]; · iexact Ht2
    iapply (reached_at D K (peer p c, some (true, p))); iexact HR
  iintro ⟨Hc, HO⟩
  iapply Hk
  isplitl [Hc Hat]
  · unfold inFlight; isplitl [Hc] <;> iassumption
  iexists W; iexact HO

/-- Waiting until a copy has landed: the rows it filled. -/
theorem recv_wait {Q : α → sProp 𝕄} (p : Cp) (n : ℕ) (hn : ord p < n) {s s' : Shape} {e e' : EltTy} {src : Memref sig .tc .vmem s' e'} {dst : Memref sig .tc .vmem s e} {sR : DmaSem sig}
    (hR : sR = dsem (true, p)) {hsrc : src.view.WordExact} {hdst : dst.view.WordExact} (hN : dst.view.dmaCredit = cr (hgt p)) :
    iprop(records D K ∗ await p c ∗ OW c n)
      ⊢ iprop(((recvPay D p c ∗ semVal (recvCell p c) 0 ∗ OW c n) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sR src dst hsrc hdst) k) Q) := by
  subst hR
  unfold await OW
  iintro ⟨#HR, ⟨Hc, Hat⟩, ⟨%W, HO⟩⟩ Hk
  iapply (Rounds.wp_wait_rest_token 𝒱₀ ER (rd D) (c : Thread nD τ) none (sm := csem (some (true, p))) (k' := dst.view.dmaCredit) (κ := K (c, some (true, p)))
      (wpE_waitDma2_eq 𝒱₀ (c : Thread nD τ) none Set.univ) (Set.mem_univ _) () (O := owedFrom c n) (W := W) (R := 0) (m := 0) (T := ∅)
      (by rw [Nat.zero_add, hN]; exact (expect_dma D c (true, p)).symm)) $$ [HO Hc Hat]
  · isplitr; · iapply (inv_at D K (c, some (true, p))); iexact HR
    isplitl [Hc]; · rw [hN]; iexact Hc
    isplitl [HO]; · iexact HO
    isplitr; · iapply (mayWait_recv c p n hn); iapply (lev_at D K); iexact HR
    iexact Hat
  iintro ⟨HO, Hat, -, Hp⟩
  imod (Rounds.cell_close ER (rd D) (Set.mem_univ (K (c, some (true, p)))) (fun h => h) (R := 0 + 1) (duties_later D (recvCell p c))) $$ [Hat] with Hz
  · isplitr; · iapply (inv_at D K (c, some (true, p))); iexact HR
    iexact Hat
  iapply Hk
  isplitl [Hp]; · iapply (Entails.of_eq (rest_recv D c p)); iexact Hp
  isplitl [Hz]; · iexact Hz
  iexists _; iexact HO

/-- Waiting until a copy has left: what it was made from. -/
theorem send_wait {Q : α → sProp 𝕄} (p : Cp) {s s' : Shape} {e e' : EltTy} {src : Memref sig .tc .vmem s' e'} {dst : Memref sig .tc .vmem s e} {sS : DmaSem sig}
    (hS : sS = dsem (false, p)) {hsrc : src.view.WordExact} {hdst : dst.view.WordExact} (hN : dst.view.dmaCredit = cr (hgt p)) :
    iprop(records D K ∗ inFlight p c ∗ OW c 18)
      ⊢ iprop(((sendPay D p c ∗ semVal (sendCell p c) 0 ∗ OW c 18) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sS src dst hsrc hdst) k) Q) := by
  subst hS
  unfold inFlight OW
  rw [owedFrom_end]
  iintro ⟨#HR, ⟨Hc, Hat⟩, ⟨%W, HO⟩⟩ Hk
  iapply (Rounds.wp_wait_rest_token 𝒱₀ ER (rd D) (c : Thread nD τ) none (sm := csem (some (false, p))) (k' := dst.view.dmaCredit) (κ := K (c, some (false, p)))
      (wpE_waitDma2_eq 𝒱₀ (c : Thread nD τ) none Set.univ) (Set.mem_univ _) () (O := 0) (W := W) (R := 0) (m := 0) (T := ∅)
      (by rw [Nat.zero_add, hN]; exact (expect_dma D c (false, p)).symm)) $$ [HO Hc Hat]
  · isplitr; · iapply (inv_at D K (c, some (false, p))); iexact HR
    isplitl [Hc]; · rw [hN]; iexact Hc
    isplitl [HO]; · iexact HO
    isplitr; · rw [MayWait_zero]; iempintro
    iexact Hat
  iintro ⟨HO, Hat, -, Hp⟩
  imod (Rounds.cell_close ER (rd D) (Set.mem_univ (K (c, some (false, p)))) (fun h => h) (R := 0 + 1) (duties_later D (sendCell p c))) $$ [Hat] with Hz
  · isplitr; · iapply (inv_at D K (c, some (false, p))); iexact HR
    iexact Hat
  iapply Hk
  isplitl [Hp]; · iapply (Entails.of_eq (rest_send D c p)); iexact Hp
  isplitl [Hz]; · iexact Hz
  iexists _; iexact HO

end Rules

end Cert.Mlp

end
-- ==== Proof.Steps.lean ====
/-
  The rules the body is run with: a load and a store of a rectangle of one buffer, and the copies of the two kinds — from a slot to the
  partner's slot, and from rows of the result buffer to the same rows of the partner's.
-/
module

public import proofs.«01_k».proof.Proof.Protocol

@[expose] public section

noncomputable section

namespace Cert.Mlp

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Access
variable (c : Dev nD) {α : Type}

/-- One of the buffers of the kernel. -/
abbrev vb (i : Fin (sig.nNear .tc .vmem)) (hi : sig.names .tc .vmem i = true := by rfl) : Ref sig .tc := ⟨.vmem, i, hi⟩
abbrev Mw (i : Fin (sig.nNear .tc .vmem)) (hi : sig.names .tc .vmem i = true := by rfl) : Memref sig .tc .vmem (vb i hi).ty.shape (vb i hi).ty.elt := Memref.whole (vb i hi)

/-- Loading a rectangle of a buffer some of whose elements, those of the rectangle among them, are held. -/
theorem ld {Q : α → sProp 𝕄} (i : Fin (sig.nNear .tc .vmem)) {hi} {r : Rect (vb i hi).ty.shape} {hl : (Mw i hi).view.LoadsAt r.toLoadRect}
    {S : Finset (vb i hi).ty.shape.Idx} (hS : r.set ⊆ S)
    {q : PosShare TreeShare} {f : (vb i hi).ty.Contents (Elt F)} {k : (r.shape.Idx → Elt F (vb i hi).ty.elt) → Prog (TpuEff nD τ sig (Elt F) Λ₀ .tc) α} :
    (((c : Thread nD τ).loc (vb i hi)) ↦[S]{q} f : sProp 𝕄)
      ⊢ iprop(((((c : Thread nD τ).loc (vb i hi)) ↦[S]{q} f) -∗ wp frame (wpE (defs₀ (F := F)) 𝒱₀ (c : Thread nD τ) none) Set.univ (k fun x => f (r.emb x)) Q)
        -∗ wp frame (wpE (defs₀ (F := F)) 𝒱₀ (c : Thread nD τ) none) Set.univ (.op (.load (Mw i hi) r.toLoadRect hl) k) Q) :=
  wp_load_rect 𝒱₀ (c : Thread nD τ) none Set.univ (m := Mw i hi) (r := r) (by
    show ((View.whole (vb i hi)).slice r).set ⊆ S
    rw [View.set_slice_whole]; exact hS)

/-- Storing a rectangle of such a buffer: the rectangle's elements are those of `g` after. -/
theorem st {Q : α → sProp 𝕄} (i : Fin (sig.nNear .tc .vmem)) {hi} {r : Rect (vb i hi).ty.shape} {S : Finset (vb i hi).ty.shape.Idx} (hS : r.set ⊆ S)
    (g : (vb i hi).ty.Contents (Elt F))
    {w : r.shape.Idx → Elt F (vb i hi).ty.elt} (hw : ∀ x, w x = g (r.emb x)) {hx : ((Mw i hi).access r).Stores Finset.univ} {hm}
    {f : (vb i hi).ty.Contents (Elt F)} {k : PUnit → Prog (TpuEff nD τ sig (Elt F) Λ₀ .tc) α} :
    (((c : Thread nD τ).loc (vb i hi)) ↦[S]{fullShare} f : sProp 𝕄)
      ⊢ iprop((∀ f' : (vb i hi).ty.Contents (Elt F), ⌜∀ i ∈ r.set, f' i = g i⌝ -∗ (((c : Thread nD τ).loc (vb i hi)) ↦[S]{fullShare} f')
            -∗ wp frame (wpE (defs₀ (F := F)) 𝒱₀ (c : Thread nD τ) none) Set.univ (k ⟨⟩) Q)
        -∗ wp frame (wpE (defs₀ (F := F)) 𝒱₀ (c : Thread nD τ) none) Set.univ (.op (.store (Mw i hi) r w Finset.univ hx hm) k) Q) := by
  iintro H Hk
  iapply (wp_store 𝒱₀ (c : Thread nD τ) none Set.univ (m := Mw i hi) (r := r) (S := S) (f := f) (by
    show ((View.whole (vb i hi)).slice r).set ⊆ S
    rw [View.set_slice_whole]; exact hS)) $$ [H]
  · iexact H
  iintro H
  iapply Hk $$ %((Mw i hi).access r |>.write (Elt F) f w Finset.univ) [] [H]
  · ipureintro
    intro j hj
    rw [← View.set_slice_whole (vb i hi) r] at hj
    obtain ⟨x, -, rfl⟩ := Finset.mem_map.mp hj
    exact (View.write_emb_of_mem (v := (Mw i hi).access r) f w (Finset.mem_univ x)).trans (hw x)
  · iexact H

/-- The same of exactly the rectangle's elements. -/
theorem stA {Q : α → sProp 𝕄} (i : Fin (sig.nNear .tc .vmem)) {hi} {r : Rect (vb i hi).ty.shape} {S : Finset (vb i hi).ty.shape.Idx} (hS : r.set = S)
    (g : (vb i hi).ty.Contents (Elt F))
    {w : r.shape.Idx → Elt F (vb i hi).ty.elt} (hw : ∀ x, w x = g (r.emb x)) {hx : ((Mw i hi).access r).Stores Finset.univ} {hm}
    {f : (vb i hi).ty.Contents (Elt F)} {k : PUnit → Prog (TpuEff nD τ sig (Elt F) Λ₀ .tc) α} :
    (((c : Thread nD τ).loc (vb i hi)) ↦[S]{fullShare} f : sProp 𝕄)
      ⊢ iprop(((((c : Thread nD τ).loc (vb i hi)) ↦[S]{fullShare} g) -∗ wp frame (wpE (defs₀ (F := F)) 𝒱₀ (c : Thread nD τ) none) Set.univ (k ⟨⟩) Q)
        -∗ wp frame (wpE (defs₀ (F := F)) 𝒱₀ (c : Thread nD τ) none) Set.univ (.op (.store (Mw i hi) r w Finset.univ hx hm) k) Q) := by
  subst hS
  iintro H Hk
  iapply (st c i (Finset.Subset.refl _) g hw) $$ H
  iintro %f' %hf H
  iapply Hk
  iapply (show (((c : Thread nD τ).loc (vb i hi)) ↦[r.set]{fullShare} f' : sProp 𝕄) ⊢ (((c : Thread nD τ).loc (vb i hi)) ↦[r.set]{fullShare} g) from
    Entails.of_eq (pointsTo_congr hf))
  iexact H

end Access

/-! ## The copies of the sums -/

section Copies
variable (D : Inp F) (K : Dev nD × Key → ℕ) (c : Dev nD) {α : Type} {k : PUnit → Prog (TpuEff nD τ sig (Elt F) Λ₀ .tc) α}

/-- A copy leaves in the destination what reads there as its source reads. -/
theorem landed {s : Shape} {e : EltTy} {sp sp' : Space} (v : View sig .tc sp s e) (v' : View sig .tc sp' s e) (fs : v.ref.ty.Contents (Elt F)) (fd g : v'.ref.ty.Contents (Elt F))
    (h : ∀ x, v.read (Elt F) fs x = v'.read (Elt F) g x) : ∀ i ∈ v'.set, v'.write (Elt F) fd (v.read (Elt F) fs) Finset.univ i = g i := by
  intro i hi
  obtain ⟨x, -, rfl⟩ := Finset.mem_map.mp hi
  rw [View.write_emb_of_mem fd _ (Finset.mem_univ x), h x, View.read_apply]
  simp

/-- The elements of one slot's first rows, as a view. -/
abbrev slotView {n : ℕ} (m : Memref sig .tc .vmem ⟨3, ![3, n, 768]⟩ .bf16) (h : ℕ) (off : Fin 3 → ℕ) (inb : ∀ a, off a + (![1, h, 768] : Fin 3 → ℕ) a ≤ (⟨3, ![3, n, 768]⟩ : Shape).size a)
    (hr : ∀ a, (Rect.unit (s := ⟨3, ![3, n, 768]⟩) off ![1, h, 768] inb).stride a = 1) (sq : (⟨3, ![1, h, 768]⟩ : Shape).Squeezes ⟨2, ![h, 768]⟩) : Memref sig .tc .vmem ⟨2, ![h, 768]⟩ .bf16 :=
  (m.slice (Rect.unit (s := ⟨3, ![3, n, 768]⟩) off ![1, h, 768] inb) hr).squeeze ⟨2, ![h, 768]⟩ sq
/-- Whole rows of the result buffer, as a view. -/
abbrev rowsView (h : ℕ) (off : Fin 2 → ℕ) (inb : ∀ a, off a + (![h, 768] : Fin 2 → ℕ) a ≤ S768x768.size a)
    (hr : ∀ a, (Rect.unit (s := S768x768) off ![h, 768] inb).stride a = 1) : Memref sig .tc .vmem ⟨2, ![h, 768]⟩ .bf16 :=
  (Memref.whole cc0_scratch1).slice (Rect.unit (s := S768x768) off ![h, 768] inb) hr

/-- Sending a slot at the first exchange of the sums. -/
theorem send_0 {Q : α → sProp 𝕄} (b : Fin 3) (h : ℕ) (hh : h = lvl b 1) {n : Dev nD} (hn : n = peer (0, b) c) {off : Fin 3 → ℕ} (h0 : off 0 = b.val) (h1 : off 1 = 0) (h2 : off 2 = 0)
    {inb hr sq inb' hr' sq'} {sS sR : DmaSem sig} (hS : sS = dsem (false, (0, b))) (hR : sR = dsem (true, (0, b)))
    {hsc} {hsrc} {hdst} {hsem} :
    iprop(records D K ∗ todo (0, b) c ∗ sendPay D (0, b) c ∗ OW c (ord (0, b)))
      ⊢ iprop(((inFlight (0, b) c ∗ OW c (ord (0, b) + 1)) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (slotView (Memref.whole cc0_scratch5) h off inb hr sq)
            (.remote (Dev.tc n : Thread nD τ) (slotView (Memref.whole cc0_scratch2) h off inb' hr' sq') (.dma sS) hsc) (.dma sR) hsrc hdst hsem) k) Q) := by
  subst hh
  have e1 : (slotView (Memref.whole cc0_scratch5) (lvl b 1) off inb hr sq).view.set = slotSet b.val (lvl b 1) := by
    show (((View.whole cc0_scratch5).slice _).reshape _ _).set = _
    rw [View.set_reshape, View.set_slice_whole]; exact unit_slotSet _ off inb h0 h1 h2
  have e2 : (slotView (Memref.whole cc0_scratch2) (lvl b 1) off inb' hr' sq').view.set = slotSet b.val (lvl b 1) := by
    show (((View.whole cc0_scratch2).slice _).reshape _ _).set = _
    rw [View.set_reshape, View.set_slice_whole]; exact unit_slotSet _ off inb' h0 h1 h2
  refine send_step D K c (0, b) n hn hS hR rfl (q := fullShare) (SBf D 192 0 c) ?_ ?_ fun fd => ?_
  · rw [e1]; rfl
  · rw [e2]; rfl
  · refine (pointsTo_congr (landed (slotView (Memref.whole cc0_scratch5) (lvl b 1) off inb hr sq).view (slotView (Memref.whole cc0_scratch2) (lvl b 1) off inb' hr' sq').view (SBf D 192 0 c) fd (RSf D 192 0 (peer (0, b) c)) fun x => ?_)).trans ?_
    · exact landStep D c b 0 192 192 _ (by rw [← h0]; exact emb3_0 off inb _)
    · rw [e2]; rfl

/-- Sending a slot at the second exchange of the sums. -/
theorem send_1 {Q : α → sProp 𝕄} (b : Fin 3) (h : ℕ) (hh : h = lvl b 2) {n : Dev nD} (hn : n = peer (1, b) c) {off : Fin 3 → ℕ} (h0 : off 0 = b.val) (h1 : off 1 = 0) (h2 : off 2 = 0)
    {inb hr sq inb' hr' sq'} {sS sR : DmaSem sig} (hS : sS = dsem (false, (1, b))) (hR : sR = dsem (true, (1, b)))
    {hsc} {hsrc} {hdst} {hsem} :
    iprop(records D K ∗ todo (1, b) c ∗ sendPay D (1, b) c ∗ OW c (ord (1, b)))
      ⊢ iprop(((inFlight (1, b) c ∗ OW c (ord (1, b) + 1)) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (slotView (Memref.whole cc0_scratch6) h off inb hr sq)
            (.remote (Dev.tc n : Thread nD τ) (slotView (Memref.whole cc0_scratch3) h off inb' hr' sq') (.dma sS) hsc) (.dma sR) hsrc hdst hsem) k) Q) := by
  subst hh
  have e1 : (slotView (Memref.whole cc0_scratch6) (lvl b 2) off inb hr sq).view.set = slotSet b.val (lvl b 2) := by
    show (((View.whole cc0_scratch6).slice _).reshape _ _).set = _
    rw [View.set_reshape, View.set_slice_whole]; exact unit_slotSet _ off inb h0 h1 h2
  have e2 : (slotView (Memref.whole cc0_scratch3) (lvl b 2) off inb' hr' sq').view.set = slotSet b.val (lvl b 2) := by
    show (((View.whole cc0_scratch3).slice _).reshape _ _).set = _
    rw [View.set_reshape, View.set_slice_whole]; exact unit_slotSet _ off inb' h0 h1 h2
  refine send_step D K c (1, b) n hn hS hR rfl (q := fullShare) (SBf D 96 1 c) ?_ ?_ fun fd => ?_
  · rw [e1]; rfl
  · rw [e2]; rfl
  · refine (pointsTo_congr (landed (slotView (Memref.whole cc0_scratch6) (lvl b 2) off inb hr sq).view (slotView (Memref.whole cc0_scratch3) (lvl b 2) off inb' hr' sq').view (SBf D 96 1 c) fd (RSf D 96 1 (peer (1, b) c)) fun x => ?_)).trans ?_
    · exact landStep D c b 1 96 96 _ (by rw [← h0]; exact emb3_0 off inb _)
    · rw [e2]; rfl

/-- Sending a slot at the third exchange of the sums. -/
theorem send_2 {Q : α → sProp 𝕄} (b : Fin 3) (h : ℕ) (hh : h = lvl b 3) {n : Dev nD} (hn : n = peer (2, b) c) {off : Fin 3 → ℕ} (h0 : off 0 = b.val) (h1 : off 1 = 0) (h2 : off 2 = 0)
    {inb hr sq inb' hr' sq'} {sS sR : DmaSem sig} (hS : sS = dsem (false, (2, b))) (hR : sR = dsem (true, (2, b)))
    {hsc} {hsrc} {hdst} {hsem} :
    iprop(records D K ∗ todo (2, b) c ∗ sendPay D (2, b) c ∗ OW c (ord (2, b)))
      ⊢ iprop(((inFlight (2, b) c ∗ OW c (ord (2, b) + 1)) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (slotView (Memref.whole cc0_scratch7) h off inb hr sq)
            (.remote (Dev.tc n : Thread nD τ) (slotView (Memref.whole cc0_scratch4) h off inb' hr' sq') (.dma sS) hsc) (.dma sR) hsrc hdst hsem) k) Q) := by
  subst hh
  have e1 : (slotView (Memref.whole cc0_scratch7) (lvl b 3) off inb hr sq).view.set = slotSet b.val (lvl b 3) := by
    show (((View.whole cc0_scratch7).slice _).reshape _ _).set = _
    rw [View.set_reshape, View.set_slice_whole]; exact unit_slotSet _ off inb h0 h1 h2
  have e2 : (slotView (Memref.whole cc0_scratch4) (lvl b 3) off inb' hr' sq').view.set = slotSet b.val (lvl b 3) := by
    show (((View.whole cc0_scratch4).slice _).reshape _ _).set = _
    rw [View.set_reshape, View.set_slice_whole]; exact unit_slotSet _ off inb' h0 h1 h2
  refine send_step D K c (2, b) n hn hS hR rfl (q := fullShare) (SBf D 48 2 c) ?_ ?_ fun fd => ?_
  · rw [e1]; rfl
  · rw [e2]; rfl
  · refine (pointsTo_congr (landed (slotView (Memref.whole cc0_scratch7) (lvl b 3) off inb hr sq).view (slotView (Memref.whole cc0_scratch4) (lvl b 3) off inb' hr' sq').view (SBf D 48 2 c) fd (RSf D 48 2 (peer (2, b) c)) fun x => ?_)).trans ?_
    · exact landStep D c b 2 48 48 _ (by rw [← h0]; exact emb3_0 off inb _)
    · rw [e2]; rfl

/-- Sending a region of the result buffer, the copy's axis being the one its sibling lies across: the copies of all three later stages. -/
theorem send_rows {Q : α → sProp 𝕄} (p : Cp) (b : Fin 3) (l : Fin 3) (q : PosShare TreeShare)
    (hax : ax p = axisOf b l) (hg : hgt p = lvl b (l + 1))
    (e1 : (sendPay D p c : sProp 𝕄) = (((c : Thread nD τ).loc cc0_scratch1) ↦[keptSet b (l + 1) c]{q} RESf D))
    (e2 : ∀ c', (landAny p c' : sProp 𝕄) = iprop(∃ f : Vec F S768x768 .bf16, ((c' : Thread nD τ).loc cc0_scratch1) ↦[sibSet b (l + 1) c']{fullShare} f))
    (e3 : ∀ c', (recvPay D p c' : sProp 𝕄) = (((c' : Thread nD τ).loc cc0_scratch1) ↦[sibSet b (l + 1) c']{fullShare} RESf D))
    (h : ℕ) (hh : h = lvl b (l + 1)) {n : Dev nD} (hn : n = peer p c) {off : Fin 2 → ℕ} (h0 : off 0 = kept b (l + 1) c) (h1 : off 1 = 0)
    {inb hr inb' hr'} {sS sR : DmaSem sig} (hS : sS = dsem (false, p)) (hR : sR = dsem (true, p))
    {hsc} {hsrc} {hdst} {hsem} :
    iprop(records D K ∗ todo p c ∗ sendPay D p c ∗ OW c (ord p))
      ⊢ iprop(((inFlight p c ∗ OW c (ord p + 1)) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (rowsView h off inb hr)
            (.remote (Dev.tc n : Thread nD τ) (rowsView h off inb' hr') (.dma sS) hsc) (.dma sR) hsrc hdst hsem) k) Q) := by
  subst hh
  have hp : sib b (l + 1) (peer p c) = kept b (l + 1) c := by unfold peer; rw [hax]; exact sib_flip b c l
  have s1 : (rowsView (lvl b (l + 1)) off inb hr).view.set = keptSet b (l + 1) c := by
    show ((View.whole cc0_scratch1).slice _).set = _
    rw [View.set_slice_whole]; exact unit_rowSet off inb _ h0 h1
  have s2 : (rowsView (lvl b (l + 1)) off inb' hr').view.set = sibSet b (l + 1) (peer p c) := by
    show ((View.whole cc0_scratch1).slice _).set = _
    unfold sibSet
    rw [View.set_slice_whole, hp]; exact unit_rowSet off inb' _ h0 h1
  refine send_step D K c p n hn hS hR (by rw [hg]; rfl) (q := q) (RESf D) ?_ ?_ fun fd => ?_
  · rw [s1]; exact e1
  · rw [s2]; exact e2 _
  · refine (pointsTo_congr (landed (rowsView (lvl b (l + 1)) off inb hr).view (rowsView (lvl b (l + 1)) off inb' hr').view (RESf D) fd (RESf D) fun x => rfl)).trans ?_
    rw [s2]; exact (e3 _).symm

end Copies

end Cert.Mlp

end
-- ==== Proof.State.lean ====
/-
  What a device holds between the parts of the body, and the rules for the loads and stores of the body's regions.
-/
module

public import proofs.«01_k».proof.Proof.Steps

@[expose] public section

set_option maxRecDepth 8000

noncomputable section

namespace Cert.Mlp

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A part of the body at the kernel's own buffers. -/
abbrev call {β : Sort*}
    (p : (arg0 : Memref sig .tc .vmem S768x768 .f32) → arg0.IsWhole → (arg1 : Memref sig .tc .vmem S768x1536 .f32) → arg1.IsWhole →
      (arg2 : Memref sig .tc .vmem S1536x768 .f32) → arg2.IsWhole → (arg3 : Memref sig .tc .vmem S768x768 .f32) → arg3.IsWhole →
      (arg4 : Memref sig .tc .vmem S384x768 .f32) → arg4.IsWhole → (arg5 : Memref sig .tc .vmem S768x768 .bf16) → arg5.IsWhole →
      (arg6 : Memref sig .tc .vmem S3x192x768 .bf16) → arg6.IsWhole → (arg7 : Memref sig .tc .vmem S3x96x768 .bf16) → arg7.IsWhole →
      (arg8 : Memref sig .tc .vmem S3x48x768 .bf16) → arg8.IsWhole → (arg9 : Memref sig .tc .vmem S3x192x768 .bf16) → arg9.IsWhole →
      (arg10 : Memref sig .tc .vmem S3x96x768 .bf16) → arg10.IsWhole → (arg11 : Memref sig .tc .vmem S3x48x768 .bf16) → arg11.IsWhole →
      (arg12 : Memref sig .tc .vmem S768x768 .bf16) → arg12.IsWhole → (arg13 : Memref sig .tc .vmem S768x1536 .bf16) → arg13.IsWhole →
      (arg14 : Memref sig .tc .vmem S1536x768 .bf16) → arg14.IsWhole → DmaSems sig S18 → DmaSems sig S18 → β) : β :=
  p (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    (Memref.whole cc0_scratch8) (Memref.isWhole_whole _) (Memref.whole cc0_scratch9) (Memref.isWhole_whole _) (Memref.whole cc0_scratch10) (Memref.isWhole_whole _)
    cc0_scratch11 cc0_scratch12

/-! ## What is held -/

section State
variable (D : Inp F)

/-- The narrowed arguments. -/
def weights (c : Dev nD) : sProp 𝕄 :=
  iprop((((c : Thread nD τ).loc cc0_scratch8) ↦[Finset.univ]{fullShare} XB D c) ∗ (((c : Thread nD τ).loc cc0_scratch9) ↦[Finset.univ]{fullShare} W1B D c)
    ∗ (((c : Thread nD τ).loc cc0_scratch10) ↦[Finset.univ]{fullShare} W2B D c))

/-- The rows of a slot to send from, with whatever they hold. -/
def slotAny : Fin 3 → Fin 3 → Dev nD → sProp 𝕄
  | 0, b, c => iprop(∃ f : Vec F S3x192x768 .bf16, ((c : Thread nD τ).loc cc0_scratch5) ↦[(slotSet b.val (lvl b 1) : Finset S3x192x768.Idx)]{fullShare} f)
  | 1, b, c => iprop(∃ f : Vec F S3x96x768 .bf16, ((c : Thread nD τ).loc cc0_scratch6) ↦[(slotSet b.val (lvl b 2) : Finset S3x96x768.Idx)]{fullShare} f)
  | 2, b, c => iprop(∃ f : Vec F S3x48x768 .bf16, ((c : Thread nD τ).loc cc0_scratch7) ↦[(slotSet b.val (lvl b 3) : Finset S3x48x768.Idx)]{fullShare} f)

theorem slotAny_0 (b : Fin 3) (c : Dev nD) : (slotAny 0 b c : sProp 𝕄)
    = iprop(∃ f : Vec F S3x192x768 .bf16, ((c : Thread nD τ).loc cc0_scratch5) ↦[(slotSet b.val (lvl b 1) : Finset S3x192x768.Idx)]{fullShare} f) := rfl
theorem slotAny_1 (b : Fin 3) (c : Dev nD) : (slotAny 1 b c : sProp 𝕄)
    = iprop(∃ f : Vec F S3x96x768 .bf16, ((c : Thread nD τ).loc cc0_scratch6) ↦[(slotSet b.val (lvl b 2) : Finset S3x96x768.Idx)]{fullShare} f) := rfl
theorem slotAny_2 (b : Fin 3) (c : Dev nD) : (slotAny 2 b c : sProp 𝕄)
    = iprop(∃ f : Vec F S3x48x768 .bf16, ((c : Thread nD τ).loc cc0_scratch7) ↦[(slotSet b.val (lvl b 3) : Finset S3x48x768.Idx)]{fullShare} f) := rfl

/-- The rows of a region in the buffer of partial sums: the region a device holds of band `b` at a level, and its sibling. -/
abbrev keptPart (b : Fin 3) (l : ℕ) (c : Dev nD) : Finset S384x768.Idx := rowSet (pbase b + (kept b l c - kept b 1 c)) (lvl b l)
abbrev sibPart (b : Fin 3) (l : ℕ) (c : Dev nD) : Finset S384x768.Idx := rowSet (pbase b + (sib b l c - kept b 1 c)) (lvl b l)
/-- The room for a band in it. -/
abbrev bandPart (b : Fin 3) : Finset S384x768.Idx := rowSet (pbase b) (lvl b 1)

/-- A band of partial sums with whatever it holds; -/
def partAny (b : Fin 3) (c : Dev nD) : sProp 𝕄 := iprop(∃ f : Vec F S384x768 .f32, ((c : Thread nD τ).loc cc0_scratch0) ↦[bandPart b]{fullShare} f)
/-- and with the sums after `s` exchanges on the region held at level `l`. -/
def partAt (b : Fin 3) (l s : ℕ) (c : Dev nD) : sProp 𝕄 :=
  iprop(∃ f : Vec F S384x768 .f32, ⌜∀ i ∈ keptPart b l c, f i = PTf D b s c i⌝ ∗ (((c : Thread nD τ).loc cc0_scratch0) ↦[bandPart b]{fullShare} f))

theorem partAt_eq (b : Fin 3) (l s : ℕ) (c : Dev nD) : (partAt D b l s c : sProp 𝕄)
    = iprop(∃ f : Vec F S384x768 .f32, ⌜∀ i ∈ keptPart b l c, f i = PTf D b s c i⌝ ∗ (((c : Thread nD τ).loc cc0_scratch0) ↦[bandPart b]{fullShare} f)) := rfl

theorem partAt_out (b : Fin 3) (l s : ℕ) (c : Dev nD) : (partAt D b l s c : sProp 𝕄)
    ⊢ iprop(∃ f : Vec F S384x768 .f32, ⌜∀ i ∈ keptPart b l c, f i = PTf D b s c i⌝ ∗ (((c : Thread nD τ).loc cc0_scratch0) ↦[bandPart b]{fullShare} f)) :=
  Entails.of_eq rfl
theorem partAt_in (b : Fin 3) (l s : ℕ) (c : Dev nD) {f : Vec F S384x768 .f32} (hf : ∀ i ∈ keptPart b l c, f i = PTf D b s c i) :
    ((((c : Thread nD τ).loc cc0_scratch0) ↦[bandPart b]{fullShare} f : sProp 𝕄)) ⊢ partAt D b l s c := by
  rw [partAt_eq]; iintro H; iexists f; iframe H; ipureintro; exact hf

/-- The rows of the result a device computes, with whatever they hold. -/
def resAny (b : Fin 3) (c : Dev nD) : sProp 𝕄 := iprop(∃ f : Vec F S768x768 .bf16, ((c : Thread nD τ).loc cc0_scratch1) ↦[keptSet b 3 c]{fullShare} f)

theorem sub_univ {s : Shape} (S : Finset s.Idx) : S ⊆ Finset.univ := Finset.subset_univ S

theorem rowSet_mono {n m a h a' h' : ℕ} (h0 : a' ≤ a) (h1 : a + h ≤ a' + h') : (rowSet a h : Finset (⟨2, ![n, m]⟩ : Shape).Idx) ⊆ rowSet a' h' := by
  intro i; rw [mem_rowSet, mem_rowSet]; omega

theorem keptPart_band (b : Fin 3) (c : Dev nD) (s : Fin 4) (hs : 1 ≤ s.val) : keptPart b s c ⊆ bandPart b := by
  have := kept_ge b c s hs
  exact rowSet_mono (by omega) (by omega)
theorem sibPart_kept (b : Fin 3) (c : Dev nD) (s : Fin 3) (hs : 1 ≤ s.val) : sibPart b (s + 1) c ⊆ keptPart b s c := by
  obtain ⟨h, hl⟩ := halves b c s
  have := kept_ge b c s.castSucc hs
  have : kept b 1 c ≤ kept b s c := this.1
  exact rowSet_mono (by omega) (by omega)
theorem keptPart_kept (b : Fin 3) (c : Dev nD) (s : Fin 3) (hs : 1 ≤ s.val) : keptPart b (s + 1) c ⊆ keptPart b s c := by
  obtain ⟨h, hl⟩ := halves b c s
  have := kept_ge b c s.castSucc hs
  have : kept b 1 c ≤ kept b s c := this.1
  exact rowSet_mono (by omega) (by omega)

end State

/-- The rectangle that is all of a buffer. -/
theorem emb_all {s : Shape} (off : Fin s.rank → ℕ) (inb) (h : ∀ a, off a = 0) (x : s.Idx) : (Rect.unit (s := s) off s.size inb).emb x = x := by
  funext a; apply Fin.ext; rw [Rect.emb_apply]; show off a + 1 * (x a).val = (x a).val; rw [h]; omega

theorem all_univ {s : Shape} (off : Fin s.rank → ℕ) (inb) (h : ∀ a, off a = 0) : (Rect.unit (s := s) off s.size inb).set = Finset.univ := by
  refine Finset.eq_univ_iff_forall.mpr fun i => ?_
  rw [Rect.mem_set_unit]
  intro a; have := (i a).isLt; rw [h]; omega

/-- Loading a whole buffer. -/
theorem ldW (c : Dev nD) {α : Type} {Q : α → sProp 𝕄} (i : Fin (sig.nNear .tc .vmem)) {hi} {off : Fin (vb i hi).ty.shape.rank → ℕ} {inb} (h0 : ∀ a, off a = 0)
    {hl : (Mw i hi).view.LoadsAt (Rect.unit (s := (vb i hi).ty.shape) off (vb i hi).ty.shape.size inb).toLoadRect}
    {q : PosShare TreeShare} {f : (vb i hi).ty.Contents (Elt F)} {k : ((vb i hi).ty.shape.Idx → Elt F (vb i hi).ty.elt) → Prog (TpuEff nD τ sig (Elt F) Λ₀ .tc) α} :
    (((c : Thread nD τ).loc (vb i hi)) ↦[Finset.univ]{q} f : sProp 𝕄)
      ⊢ iprop(((((c : Thread nD τ).loc (vb i hi)) ↦[Finset.univ]{q} f) -∗ wp frame (wpE (defs₀ (F := F)) 𝒱₀ (c : Thread nD τ) none) Set.univ (k f) Q)
        -∗ wp frame (wpE (defs₀ (F := F)) 𝒱₀ (c : Thread nD τ) none) Set.univ
          (.op (.load (Mw i hi) (Rect.unit (s := (vb i hi).ty.shape) off (vb i hi).ty.shape.size inb).toLoadRect hl) k) Q) := by
  have := ld c (Q := Q) i (hi := hi) (r := Rect.unit (s := (vb i hi).ty.shape) off (vb i hi).ty.shape.size inb) (hl := hl) (q := q) (f := f) (k := k) (sub_univ _)
  rwa [show (fun x => f ((Rect.unit (s := (vb i hi).ty.shape) off (vb i hi).ty.shape.size inb).emb x)) = f from funext fun x => congrArg f (emb_all off inb h0 x)] at this

/-- Zero offsets. -/
theorem zero2 : ∀ a : Fin 2, (![0, 0] : Fin 2 → ℕ) a = 0 := by decide

/-! ## The rectangles of the body -/

/-- A rectangle of the first rows of a slot. -/
theorem slotR {n : ℕ} (b : Fin 3) (l h : ℕ) (hh : h = lvl b l) (off : Fin 3 → ℕ) {inb} (h0 : off 0 = b.val) (h1 : off 1 = 0) (h2 : off 2 = 0) :
    (Rect.unit (s := ⟨3, ![3, n, 768]⟩) off ![1, h, 768] inb).set = slotSet b.val (lvl b l) := by
  subst hh; exact unit_slotSet _ off inb h0 h1 h2

/-- A rectangle of the rows of a region of partial sums. -/
theorem keptR (c : Dev nD) (b : Fin 3) (l h : ℕ) (hh : h = lvl b l) (off : Fin 2 → ℕ) {inb} (h0 : off 0 = pbase b + (kept b l c - kept b 1 c)) (h1 : off 1 = 0) :
    (Rect.unit (s := S384x768) off ![h, 768] inb).set = keptPart b l c := by
  subst hh; exact unit_rowSet off inb _ h0 h1
theorem sibR (c : Dev nD) (b : Fin 3) (l h : ℕ) (hh : h = lvl b l) (off : Fin 2 → ℕ) {inb} (h0 : off 0 = pbase b + (sib b l c - kept b 1 c)) (h1 : off 1 = 0) :
    (Rect.unit (s := S384x768) off ![h, 768] inb).set = sibPart b l c := by
  subst hh; exact unit_rowSet off inb _ h0 h1
/-- The first region's offset. -/
theorem off_one (c : Dev nD) (b : Fin 3) {n : ℕ} (h : n = pbase b) : n = pbase b + (kept b 1 c - kept b 1 c) := by omega

/-- Each is within its band's room. -/
theorem keptS (c : Dev nD) (b : Fin 3) (l : Fin 4) (hl : 1 ≤ l.val) (h : ℕ) (hh : h = lvl b l) (off : Fin 2 → ℕ) {inb} (h0 : off 0 = pbase b + (kept b l c - kept b 1 c)) (h1 : off 1 = 0) :
    (Rect.unit (s := S384x768) off ![h, 768] inb).set ⊆ bandPart b := by
  rw [keptR c b l h hh off h0 h1]; exact keptPart_band b c l hl
theorem sibS (c : Dev nD) (b : Fin 3) (l : Fin 3) (hl : 1 ≤ l.val) (h : ℕ) (hh : h = lvl b (l + 1)) (off : Fin 2 → ℕ) {inb} (h0 : off 0 = pbase b + (sib b (l + 1) c - kept b 1 c)) (h1 : off 1 = 0) :
    (Rect.unit (s := S384x768) off ![h, 768] inb).set ⊆ bandPart b := by
  rw [sibR c b (l + 1) h hh off h0 h1]; exact (sibPart_kept b c l hl).trans (keptPart_band b c l.castSucc hl)

section Rules
variable (D : Inp F) (c : Dev nD) {α : Type}

/-- Storing partial sums on a region. -/
theorem stPart {Q : α → sProp 𝕄} (b : Fin 3) (l : Fin 4) (hl : 1 ≤ l.val) (s : ℕ) {n : ℕ} (hn : n = lvl b l) (off : Fin 2 → ℕ) (h0 : off 0 = pbase b + (kept b l c - kept b 1 c)) (h1 : off 1 = 0) {inb}
    {w : Vec F ⟨2, ![n, 768]⟩ .f32} (hw : ∀ x, w x = PTf D b s c ((Rect.unit (s := S384x768) off ![n, 768] inb).emb x))
    {f : Vec F S384x768 .f32} {k : PUnit → Prog (TpuEff nD τ sig (Elt F) Λ₀ .tc) α} {hx hm} :
    (((c : Thread nD τ).loc cc0_scratch0) ↦[bandPart b]{fullShare} f : sProp 𝕄)
      ⊢ iprop((partAt D b l s c -∗ wp frame (wpE (defs₀ (F := F)) 𝒱₀ (c : Thread nD τ) none) Set.univ (k ⟨⟩) Q)
        -∗ wp frame (wpE (defs₀ (F := F)) 𝒱₀ (c : Thread nD τ) none) Set.univ
          (.op (.store (Memref.whole cc0_scratch0) (Rect.unit (s := S384x768) off ![n, 768] inb) w Finset.univ hx hm) k) Q) := by
  iintro H Hk
  iapply (st c 4 (keptS c b l hl n hn off h0 h1) (PTf D b s c) hw) $$ H
  iintro %f' %hf H
  iapply Hk
  unfold partAt
  iexists f'
  isplitr
  · ipureintro; intro i hi; exact hf i (by rw [keptR c b l n hn off h0 h1]; exact hi)
  iexact H

/-- What an exchange adds, as the body stores it. -/
theorem addW (b : Fin 3) (s : Fin 3) (l : ℕ) (hsub : keptPart b (s + 1) c ⊆ keptPart b l c) {n : ℕ} (hn : n = lvl b (s + 1)) {off : Fin 2 → ℕ}
    (h0 : off 0 = pbase b + (kept b (s + 1) c - kept b 1 c)) (h1 : off 1 = 0) {inb} {k : ℕ}
    {off' : Fin 3 → ℕ} {inb'} (h0' : off' 0 = b.val) (h1' : off' 1 = 0) (h2' : off' 2 = 0)
    {f : Vec F S384x768 .f32} (hf : ∀ i ∈ keptPart b l c, f i = PTf D b s c i)
    {w : Vec F ⟨2, ![n, 768]⟩ .f32} (hw : ∀ x, w x = FloatOps.addf (f ((Rect.unit (s := S384x768) off ![n, 768] inb).emb x))
        (wid (RSf D k s c ((Rect.unit (s := ⟨3, ![3, k, 768]⟩) off' ![1, n, 768] inb').emb (intoSlot x))))) (x) :
    w x = PTf D b (s + 1) c ((Rect.unit (s := S384x768) off ![n, 768] inb).emb x) :=
  (hw x).trans (addStep D c b s hn off inb h0 h1 off' inb' h0' h1' h2' f (fun i hi => hf i (hsub (by rw [h0, hn] at hi; exact hi))) x)

/-- The rows sent at a later exchange, as the body stores them. -/
theorem slotW {k n : ℕ} (b : Fin 3) (s : Fin 3) (hs : 1 ≤ s.val) (hn : n = lvl b (s + 1)) {off : Fin 2 → ℕ}
    (h0 : off 0 = pbase b + (sib b (s + 1) c - kept b 1 c)) (h1 : off 1 = 0) {inb}
    {off' : Fin 3 → ℕ} {inb'} (h0' : off' 0 = b.val) (h1' : off' 1 = 0) (h2' : off' 2 = 0)
    {f : Vec F S384x768 .f32} (hf : ∀ i ∈ keptPart b s c, f i = PTf D b s c i)
    {w : Vec F ⟨3, ![1, n, 768]⟩ .bf16} (hw : ∀ x, w x = nar (f ((Rect.unit (s := S384x768) off ![n, 768] inb).emb (ofSlot x)))) (x) :
    w x = SBf D k s c ((Rect.unit (s := ⟨3, ![3, k, 768]⟩) off' ![1, n, 768] inb').emb x) :=
  (hw x).trans (slotStep D c b s hs hn off inb h0 h1 off' inb' h0' h1' h2' f (fun i hi => hf i (sibPart_kept b c s hs (by rw [h0, hn] at hi; exact hi))) x)

end Rules

section Payloads
variable (D : Inp F) (c : Dev nD) (b : Fin 3)

/-- What each copy of the sums leaves, as a buffer's rows. -/
theorem recv_0 : (recvPay D (0, b) c : sProp 𝕄) ⊢ (((c : Thread nD τ).loc cc0_scratch2) ↦[(slotSet b.val (lvl b 1) : Finset S3x192x768.Idx)]{fullShare} RSf D 192 0 c) := Entails.of_eq rfl
theorem recv_1 : (recvPay D (1, b) c : sProp 𝕄) ⊢ (((c : Thread nD τ).loc cc0_scratch3) ↦[(slotSet b.val (lvl b 2) : Finset S3x96x768.Idx)]{fullShare} RSf D 96 1 c) := Entails.of_eq rfl
theorem recv_2 : (recvPay D (2, b) c : sProp 𝕄) ⊢ (((c : Thread nD τ).loc cc0_scratch4) ↦[(slotSet b.val (lvl b 3) : Finset S3x48x768.Idx)]{fullShare} RSf D 48 2 c) := Entails.of_eq rfl
theorem recv_0' : ((((c : Thread nD τ).loc cc0_scratch2) ↦[(slotSet b.val (lvl b 1) : Finset S3x192x768.Idx)]{fullShare} RSf D 192 0 c) : sProp 𝕄) ⊢ recvPay D (0, b) c := Entails.of_eq rfl
theorem recv_1' : ((((c : Thread nD τ).loc cc0_scratch3) ↦[(slotSet b.val (lvl b 2) : Finset S3x96x768.Idx)]{fullShare} RSf D 96 1 c) : sProp 𝕄) ⊢ recvPay D (1, b) c := Entails.of_eq rfl
theorem recv_2' : ((((c : Thread nD τ).loc cc0_scratch4) ↦[(slotSet b.val (lvl b 3) : Finset S3x48x768.Idx)]{fullShare} RSf D 48 2 c) : sProp 𝕄) ⊢ recvPay D (2, b) c := Entails.of_eq rfl

/-- What each copy of the sums is made from, of a buffer's rows. -/
theorem sent_0 : ((((c : Thread nD τ).loc cc0_scratch5) ↦[(slotSet b.val (lvl b 1) : Finset S3x192x768.Idx)]{fullShare} SBf D 192 0 c) : sProp 𝕄) ⊢ sendPay D (0, b) c := Entails.of_eq rfl
theorem sent_1 : ((((c : Thread nD τ).loc cc0_scratch6) ↦[(slotSet b.val (lvl b 2) : Finset S3x96x768.Idx)]{fullShare} SBf D 96 1 c) : sProp 𝕄) ⊢ sendPay D (1, b) c := Entails.of_eq rfl
theorem sent_2 : ((((c : Thread nD τ).loc cc0_scratch7) ↦[(slotSet b.val (lvl b 3) : Finset S3x48x768.Idx)]{fullShare} SBf D 48 2 c) : sProp 𝕄) ⊢ sendPay D (2, b) c := Entails.of_eq rfl

end Payloads

theorem sub_same (b : Fin 3) (c : Dev nD) (l : ℕ) : keptPart b l c ⊆ keptPart b l c := Finset.Subset.refl _

end Cert.Mlp

end
-- ==== Proof.PartsA.lean ====
/-
  The first half of the body: the products, the first exchange of the sums and the second's start.
-/
module

public import proofs.«01_k».proof.Proof.State

@[expose] public section

set_option maxRecDepth 8000

noncomputable section

namespace Cert.Mlp

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (D : Inp F) (K : Dev nD × Key → ℕ) (c : Dev nD)

/-- Narrowing the arguments. -/
theorem part1_spec {Q : (Σ' (d0 : Dev nD) (v2 : BitVec 32) (v23 : BitVec 32) (v25 : BitVec 32) (v27 : BitVec 32), Sems sig S_) → sProp 𝕄}
    (f8 : Vec F S768x768 .bf16) (f9 : Vec F S768x1536 .bf16) (f10 : Vec F S1536x768 .bf16) :
    iprop((((c : Thread nD τ).loc cc0_stg0_0) ↦[Finset.univ]{fullShare} D.x c) ∗ (((c : Thread nD τ).loc cc0_stg1_0) ↦[Finset.univ]{fullShare} D.w1 c)
        ∗ (((c : Thread nD τ).loc cc0_stg2_0) ↦[Finset.univ]{fullShare} D.w2 c)
        ∗ (((c : Thread nD τ).loc cc0_scratch8) ↦[Finset.univ]{fullShare} f8) ∗ (((c : Thread nD τ).loc cc0_scratch9) ↦[Finset.univ]{fullShare} f9)
        ∗ (((c : Thread nD τ).loc cc0_scratch10) ↦[Finset.univ]{fullShare} f10))
      ⊢ iprop((∀ v2 v23 v25 v27, ((((c : Thread nD τ).loc cc0_stg0_0) ↦[Finset.univ]{fullShare} D.x c) ∗ (((c : Thread nD τ).loc cc0_stg1_0) ↦[Finset.univ]{fullShare} D.w1 c)
        ∗ (((c : Thread nD τ).loc cc0_stg2_0) ↦[Finset.univ]{fullShare} D.w2 c) ∗ weights D c) -∗ Q ⟨c, v2, v23, v25, v27, SemArray.scalar (sig.barrier 0 rfl)⟩)
        -∗ wp frame (wpE (defs₀ (F := F)) 𝒱₀ (c : Thread nD τ) none) Set.univ (call (k0_part1 (F := F))) Q) := by
  unfold call
  rw [k0_part1_eq_skeleton]
  unfold k0_part1_skel weights
  simp only [Prog.lift, Prog.bind_op, Prog.bind_ret, Prog.pure_eq_ret, wp_deviceId]
  iintro ⟨H0, H1, H2, H8, H9, H10⟩ Hk
  iapply (ldW c 0 zero2) $$ H0; iintro H0
  iapply (ldW c 12 zero2) $$ H8; iintro H8
  iapply (stA c 12 (all_univ _ _ zero2) (XB D c) (fun x => congrArg (XB D c) (emb_all ![0, 0] inb_S768x768_S768x768_0_0 zero2 x).symm)) $$ H8; iintro H8
  iapply (ldW c 1 zero2) $$ H1; iintro H1
  iapply (ldW c 13 zero2) $$ H9; iintro H9
  iapply (stA c 13 (all_univ _ _ zero2) (W1B D c) (fun x => congrArg (W1B D c) (emb_all ![0, 0] inb_S768x1536_S768x1536_0_0 zero2 x).symm)) $$ H9; iintro H9
  iapply (ldW c 2 zero2) $$ H2; iintro H2
  iapply (ldW c 14 zero2) $$ H10; iintro H10
  iapply (stA c 14 (all_univ _ _ zero2) (W2B D c) (fun x => congrArg (W2B D c) (emb_all ![0, 0] inb_S1536x768_S1536x768_0_0 zero2 x).symm)) $$ H10; iintro H10
  rw [wp_ret]; imodintro
  iapply Hk
  iframe H0 H1 H2 H8 H9 H10

/-- The barrier, and the first band's rows to send. -/
theorem part2_spec {Q : (Σ' (v55 : BitVec 32), BitVec 32) → sProp 𝕄} (v2 v27 : BitVec 32) (W : Waits sig Unit) :
    iprop(records D K ∗ weights D c ∗ slotAny 0 0 c ∗ owes (c : Thread nD τ) (owed₀ c) W ∗ dutyTok ER (barCell (flip 0 c)) 0 0 ∗ dutyTok ER (barCell (flip 1 c)) 0 1
        ∗ dutyTok ER (barCell (flip 2 c)) 0 2 ∗ barPay 0 (flip 0 c) ∗ barPay 1 (flip 1 c) ∗ barPay 2 (flip 2 c)
        ∗ cred (tallyAt (barCell c) () 3) ∗ atPos ER (barCell c) 0 ∅ 0)
      ⊢ iprop((∀ r, (weights D c ∗ sendPay D (0, 0) c ∗ OW c 0 ∗ semVal (barCell c) 0 ∗ bigSep Finset.univ fun p : Cp => landAny p (peer p c)) -∗ Q r)
        -∗ wp frame (wpE (defs₀ (F := F)) 𝒱₀ (c : Thread nD τ) none) Set.univ (call (k0_part2 (F := F)) c v2 v27 (SemArray.scalar (sig.barrier 0 rfl))) Q) := by
  unfold call
  rw [k0_part2_eq_skeleton]
  unfold k0_part2_skel weights
  simp only [semSignalWord, semWaitWord, Prog.lift, Prog.bind_op, Prog.bind_ret, Prog.pure_eq_ret, slotAny_0]
  iintro ⟨#HR, ⟨Hx, Hw1, Hw2⟩, ⟨%f, Hsb⟩, HO, Ht0, Ht1, Ht2, Hp0, Hp1, Hp2, Hc, Hat⟩ Hk
  iapply (signal_step D K c 0 _ (dev1_eq c) (owed₁ c) _ (by decide) W) $$ [HO Ht0 Hp0]
  · iframe HR HO Ht0 Hp0
  iintro HO
  iapply (signal_step D K c 1 _ (dev2_eq c) (owed₂ c) _ (by decide) W) $$ [HO Ht1 Hp1]
  · iframe HR HO Ht1 Hp1
  iintro HO
  iapply (signal_step D K c 2 _ (dev3_eq c) (owedFrom c 0) _ (by decide) W) $$ [HO Ht2 Hp2]
  · iframe HR HO Ht2 Hp2
  iintro HO
  iapply (bar_wait D K c _ (by decide) W) $$ [HO Hc Hat]
  · iframe HR HO Hc Hat
  iintro ⟨HO, Hz, Hland⟩
  iapply (ld c 12 (sub_univ _)) $$ Hx; iintro Hx
  iapply (ldW c 13 zero2) $$ Hw1; iintro Hw1
  iapply (ldW c 14 zero2) $$ Hw2; iintro Hw2
  iapply (ld c 9 (slotR 0 1 192 rfl ![0, 0, 0] rfl rfl rfl).subset) $$ Hsb; iintro Hsb
  iapply (stA c 9 (slotR 0 1 192 rfl ![0, 0, 0] rfl rfl rfl) (SBf D 192 0 c) (sb00 D c (k0_off1_inb c) rfl _)) $$ Hsb; iintro Hsb
  ihave Hsb := (sent_0 D c 0) $$ Hsb
  rw [wp_ret]; imodintro
  iapply Hk
  iframe Hx Hw1 Hw2 Hsb HO Hz Hland

/-- Sending the first band's; the second band's rows to send. -/
theorem part3_spec {Q : BitVec 32 → sProp 𝕄} (v2 v25 v27 v55 z : BitVec 32) :
    iprop(records D K ∗ weights D c ∗ todo (0, 0) c ∗ sendPay D (0, 0) c ∗ OW c 0 ∗ slotAny 0 1 c)
      ⊢ iprop((∀ r, (weights D c ∗ inFlight (0, 0) c ∗ OW c 1 ∗ sendPay D (0, 1) c) -∗ Q r)
        -∗ wp frame (wpE (defs₀ (F := F)) 𝒱₀ (c : Thread nD τ) none) Set.univ (call (k0_part3 (F := F)) c v2 v25 v27 v55 z) Q) := by
  unfold call
  rw [k0_part3_eq_skeleton]
  unfold k0_part3_skel weights
  simp only [Prog.lift, Prog.bind_op, Prog.bind_ret, Prog.pure_eq_ret, slotAny_0]
  iintro ⟨#HR, ⟨Hx, Hw1, Hw2⟩, Ht, Hs, HO, ⟨%f, Hsb⟩⟩ Hk
  iapply (send_0 D K c 0 192 rfl (dev4_eq c) (off := ![0, 0, 0]) rfl rfl rfl rfl rfl) $$ [Ht Hs HO]
  · iframe HR Ht Hs HO
  iintro ⟨Hf, HO⟩
  iapply (ld c 12 (sub_univ _)) $$ Hx; iintro Hx
  iapply (ldW c 13 zero2) $$ Hw1; iintro Hw1
  iapply (ldW c 14 zero2) $$ Hw2; iintro Hw2
  iapply (ld c 9 (slotR 1 1 128 rfl ![1, 0, 0] rfl rfl rfl).subset) $$ Hsb; iintro Hsb
  iapply (stA c 9 (slotR 1 1 128 rfl ![1, 0, 0] rfl rfl rfl) (SBf D 192 0 c) (sb10 D c (k0_off2_inb c) rfl _)) $$ Hsb; iintro Hsb
  ihave Hsb := (sent_0 D c 1) $$ Hsb
  rw [wp_ret]; imodintro
  iapply Hk
  iframe Hx Hw1 Hw2 Hf HO Hsb

/-- Sending the second band's; the third band's rows to send. -/
theorem part4_spec {Q : BitVec 32 → sProp 𝕄} (v2 v23 v25 : BitVec 32) :
    iprop(records D K ∗ weights D c ∗ todo (0, 1) c ∗ sendPay D (0, 1) c ∗ OW c 1 ∗ slotAny 0 2 c)
      ⊢ iprop((∀ r, (weights D c ∗ inFlight (0, 1) c ∗ OW c 2 ∗ sendPay D (0, 2) c) -∗ Q r)
        -∗ wp frame (wpE (defs₀ (F := F)) 𝒱₀ (c : Thread nD τ) none) Set.univ (call (k0_part4 (F := F)) c v2 v23 v25) Q) := by
  unfold call
  rw [k0_part4_eq_skeleton]
  unfold k0_part4_skel weights
  simp only [Prog.lift, Prog.bind_op, Prog.bind_ret, Prog.pure_eq_ret, slotAny_0]
  iintro ⟨#HR, ⟨Hx, Hw1, Hw2⟩, Ht, Hs, HO, ⟨%f, Hsb⟩⟩ Hk
  iapply (send_0 D K c 1 128 rfl (dev5_eq c) (off := ![1, 0, 0]) rfl rfl rfl rfl rfl) $$ [Ht Hs HO]
  · iframe HR Ht Hs HO
  iintro ⟨Hf, HO⟩
  iapply (ld c 12 (sub_univ _)) $$ Hx; iintro Hx
  iapply (ldW c 13 zero2) $$ Hw1; iintro Hw1
  iapply (ldW c 14 zero2) $$ Hw2; iintro Hw2
  iapply (ld c 9 (slotR 2 1 64 rfl ![2, 0, 0] rfl rfl rfl).subset) $$ Hsb; iintro Hsb
  iapply (stA c 9 (slotR 2 1 64 rfl ![2, 0, 0] rfl rfl rfl) (SBf D 192 0 c) (sb20 D c (k0_off3_inb c) rfl _)) $$ Hsb; iintro Hsb
  ihave Hsb := (sent_0 D c 2) $$ Hsb
  rw [wp_ret]; imodintro
  iapply Hk
  iframe Hx Hw1 Hw2 Hf HO Hsb

/-- Sending the third band's; the first band's own product; and what lands of it. -/
theorem part5_spec {Q : BitVec 32 → sProp 𝕄} (v2 v23 v66 : BitVec 32) :
    iprop(records D K ∗ weights D c ∗ todo (0, 2) c ∗ sendPay D (0, 2) c ∗ OW c 2 ∗ partAny 0 c ∗ await (0, 0) c)
      ⊢ iprop((∀ r, (weights D c ∗ inFlight (0, 2) c ∗ OW c 3 ∗ partAt D 0 1 0 c ∗ recvPay D (0, 0) c ∗ semVal (recvCell (0, 0) c) 0) -∗ Q r)
        -∗ wp frame (wpE (defs₀ (F := F)) 𝒱₀ (c : Thread nD τ) none) Set.univ (call (k0_part5 (F := F)) c v2 v23 v66) Q) := by
  unfold call
  rw [k0_part5_eq_skeleton]
  unfold k0_part5_skel weights partAny
  simp only [Prog.lift, Prog.bind_op, Prog.bind_ret, Prog.pure_eq_ret]
  iintro ⟨#HR, ⟨Hx, Hw1, Hw2⟩, Ht, Hs, HO, ⟨%f, Hpt⟩, Haw⟩ Hk
  iapply (send_0 D K c 2 64 rfl (dev6_eq c) (off := ![2, 0, 0]) rfl rfl rfl rfl rfl) $$ [Ht Hs HO]
  · iframe HR Ht Hs HO
  iintro ⟨Hf, HO⟩
  iapply (ld c 12 (sub_univ _)) $$ Hx; iintro Hx
  iapply (ldW c 13 zero2) $$ Hw1; iintro Hw1
  iapply (ldW c 14 zero2) $$ Hw2; iintro Hw2
  iapply (ld c 4 (keptS c 0 1 (by decide) 192 rfl ![0, 0] (off_one c 0 rfl) rfl)) $$ Hpt; iintro Hpt
  iapply (stPart D c 0 1 (by decide) 0 rfl ![0, 0] (off_one c 0 rfl) rfl (pt00 D c (k0_off4_inb c) rfl _)) $$ Hpt; iintro Hpt
  iapply (recv_wait D K c (0, 0) 3 (by decide) rfl rfl) $$ [Haw HO]
  · iframe HR Haw HO
  iintro ⟨Hr, Hz, HO⟩
  rw [wp_ret]; imodintro
  iapply Hk
  iframe Hx Hw1 Hw2 Hf HO Hpt Hr Hz

/-- Adding what landed; the second exchange's rows of the first band, sent. -/
theorem part6_spec {Q : (Σ' (v175 : BitVec 32), BitVec 32) → sProp 𝕄} (v2 v25 : BitVec 32) :
    iprop(records D K ∗ partAt D 0 1 0 c ∗ recvPay D (0, 0) c ∗ slotAny 1 0 c ∗ todo (1, 0) c ∗ OW c 3)
      ⊢ iprop((∀ r, (partAt D 0 1 1 c ∗ recvPay D (0, 0) c ∗ inFlight (1, 0) c ∗ OW c 4) -∗ Q r)
        -∗ wp frame (wpE (defs₀ (F := F)) 𝒱₀ (c : Thread nD τ) none) Set.univ (call (k0_part6 (F := F)) c v2 v25) Q) := by
  unfold call
  rw [k0_part6_eq_skeleton]
  unfold k0_part6_skel
  simp only [Prog.lift, Prog.bind_op, Prog.bind_ret, Prog.pure_eq_ret, slotAny_1]
  iintro ⟨#HR, Hpt, Hr, ⟨%g, Hsb⟩, Ht, HO⟩ Hk
  ihave Hpt := (partAt_out D 0 _ _ c) $$ Hpt
  icases Hpt with ⟨%f, %hf, Hpt⟩
  ihave Hr := (recv_0 D c 0) $$ Hr
  iapply (ld c 4 (keptS c 0 1 (by decide) 192 rfl ![0, 0] (off_one c 0 rfl) rfl)) $$ Hpt; iintro Hpt
  iapply (ld c 6 (slotR 0 1 192 rfl ![0, 0, 0] rfl rfl rfl).subset) $$ Hr; iintro Hr
  iapply (ld c 4 (keptS c 0 1 (by decide) 192 rfl ![0, 0] (off_one c 0 rfl) rfl)) $$ Hpt; iintro Hpt
  iapply (stPart D c 0 1 (by decide) 1 rfl ![0, 0] (off_one c 0 rfl) rfl
    (addW D c 0 0 1 (sub_same _ _ _) rfl (off_one c 0 rfl) rfl (off' := ![0, 0, 0]) rfl rfl rfl hf (fun x => addLanded _ _ _ _ x))) $$ Hpt; iintro Hpt
  ihave Hpt := (partAt_out D 0 _ _ c) $$ Hpt
  icases Hpt with ⟨%f', %hf', Hpt⟩
  iapply (ld c 4 (sibS c 0 1 (by decide) 96 rfl (k0_off5 c) (off5_eq c) rfl)) $$ Hpt; iintro Hpt
  iapply (ld c 10 (slotR 0 2 96 rfl ![0, 0, 0] rfl rfl rfl).subset) $$ Hsb; iintro Hsb
  iapply (stA c 10 (slotR 0 2 96 rfl ![0, 0, 0] rfl rfl rfl) (SBf D 96 1 c)
    (slotW D c 0 1 (by decide) rfl (off5_eq c) rfl (off' := ![0, 0, 0]) rfl rfl rfl hf' (fun x => narSlot _ _ x))) $$ Hsb; iintro Hsb
  ihave Hsb := (sent_1 D c 0) $$ Hsb
  iapply (send_1 D K c 0 96 rfl (dev7_eq c) (off := ![0, 0, 0]) rfl rfl rfl rfl rfl) $$ [Ht Hsb HO]
  · iframe HR Ht Hsb HO
  iintro ⟨Hf, HO⟩
  rw [wp_ret]; imodintro
  iapply Hk
  ihave Hpt := (partAt_in D 0 1 1 c hf') $$ Hpt
  ihave Hr := (recv_0' D c 0) $$ Hr
  iframe Hpt Hr Hf HO

/-- The second band's own product, what lands of it, and their sum. -/
theorem part7_spec {Q : (Σ' (v177 : BitVec 32), FVec F S128x768 .f32) → sProp 𝕄} (v2 v66 v95 v176 : BitVec 32) :
    iprop(records D K ∗ weights D c ∗ OW c 4 ∗ partAny 1 c ∗ await (0, 1) c)
      ⊢ iprop((∀ v177 w, (⌜∀ x, w x = PTf D 1 1 c ((Rect.unit (s := S384x768) ![192, 0] ![128, 768] inb_S384x768_S128x768_192_0).emb x)⌝
          ∗ weights D c ∗ OW c 4 ∗ partAny 1 c ∗ recvPay D (0, 1) c ∗ semVal (recvCell (0, 1) c) 0) -∗ Q ⟨v177, w⟩)
        -∗ wp frame (wpE (defs₀ (F := F)) 𝒱₀ (c : Thread nD τ) none) Set.univ (call (k0_part7 (F := F)) c v2 v66 v95 v176) Q) := by
  unfold call
  rw [k0_part7_eq_skeleton]
  unfold k0_part7_skel weights partAny
  simp only [Prog.lift, Prog.bind_op, Prog.bind_ret, Prog.pure_eq_ret]
  iintro ⟨#HR, ⟨Hx, Hw1, Hw2⟩, HO, ⟨%f, Hpt⟩, Haw⟩ Hk
  iapply (ld c 12 (sub_univ _)) $$ Hx; iintro Hx
  iapply (ldW c 13 zero2) $$ Hw1; iintro Hw1
  iapply (ldW c 14 zero2) $$ Hw2; iintro Hw2
  iapply (ld c 4 (keptS c 1 1 (by decide) 128 rfl ![192, 0] (off_one c 1 rfl) rfl)) $$ Hpt; iintro Hpt
  iapply (stPart D c 1 1 (by decide) 0 rfl ![192, 0] (off_one c 1 rfl) rfl (pt10 D c (k0_off6_inb c) rfl _)) $$ Hpt; iintro Hpt
  ihave Hpt := (partAt_out D 1 _ _ c) $$ Hpt
  icases Hpt with ⟨%g, %hg, Hpt⟩
  iapply (recv_wait D K c (0, 1) 4 (by decide) rfl rfl) $$ [Haw HO]
  · iframe HR Haw HO
  iintro ⟨Hr, Hz, HO⟩
  ihave Hr := (recv_0 D c 1) $$ Hr
  iapply (ld c 4 (keptS c 1 1 (by decide) 128 rfl ![192, 0] (off_one c 1 rfl) rfl)) $$ Hpt; iintro Hpt
  iapply (ld c 6 (slotR 1 1 128 rfl ![1, 0, 0] rfl rfl rfl).subset) $$ Hr; iintro Hr
  iapply (ld c 4 (keptS c 1 1 (by decide) 128 rfl ![192, 0] (off_one c 1 rfl) rfl)) $$ Hpt; iintro Hpt
  ihave Hr := (recv_0' D c 1) $$ Hr
  rw [wp_ret]; imodintro
  iapply Hk
  isplitr
  · ipureintro
    exact addW D c 1 0 1 (sub_same _ _ _) rfl (off_one c 1 rfl) rfl (off' := ![1, 0, 0]) rfl rfl rfl hg (fun x => addLanded _ _ _ _ x)
  iframe Hx Hw1 Hw2 HO Hr Hz
  iexists g; iexact Hpt

/-- The second exchange's rows of the second band, sent; the third band's first product. -/
theorem part8_spec {Q : (Σ' (v228 : BitVec 32) (v230 : BitVec 32), FVec F S64x1536 .bf16) → sProp 𝕄} (v2 v23 v95 v124 : BitVec 32) (w : FVec F S128x768 .f32)
    (hw : ∀ x, w x = PTf D 1 1 c ((Rect.unit (s := S384x768) ![192, 0] ![128, 768] inb_S384x768_S128x768_192_0).emb x)) :
    iprop(records D K ∗ weights D c ∗ OW c 4 ∗ partAny 1 c ∗ slotAny 1 1 c ∗ todo (1, 1) c)
      ⊢ iprop((∀ r, (⌜r.2.2 = k0_pay13 (fun y => XB D c ((Rect.unit (s := S768x768) (k0_off8 c) ![64, 768] (k0_off8_inb c)).emb y)) (W1B D c)⌝
          ∗ weights D c ∗ OW c 5 ∗ partAt D 1 1 1 c ∗ inFlight (1, 1) c) -∗ Q r)
        -∗ wp frame (wpE (defs₀ (F := F)) 𝒱₀ (c : Thread nD τ) none) Set.univ (call (k0_part8 (F := F)) c v2 v23 v95 v124 w) Q) := by
  unfold call
  rw [k0_part8_eq_skeleton]
  unfold k0_part8_skel weights partAny
  simp only [Prog.lift, Prog.bind_op, Prog.bind_ret, Prog.pure_eq_ret, slotAny_1]
  iintro ⟨#HR, ⟨Hx, Hw1, Hw2⟩, HO, ⟨%f, Hpt⟩, ⟨%g, Hsb⟩, Ht⟩ Hk
  iapply (stPart D c 1 1 (by decide) 1 rfl ![192, 0] (off_one c 1 rfl) rfl hw) $$ Hpt; iintro Hpt
  ihave Hpt := (partAt_out D 1 _ _ c) $$ Hpt
  icases Hpt with ⟨%f', %hf', Hpt⟩
  iapply (ld c 4 (sibS c 1 1 (by decide) 64 rfl (k0_off7 c) (off7_eq c) rfl)) $$ Hpt; iintro Hpt
  iapply (ld c 10 (slotR 1 2 64 rfl ![1, 0, 0] rfl rfl rfl).subset) $$ Hsb; iintro Hsb
  iapply (stA c 10 (slotR 1 2 64 rfl ![1, 0, 0] rfl rfl rfl) (SBf D 96 1 c)
    (slotW D c 1 1 (by decide) rfl (off7_eq c) rfl (off' := ![1, 0, 0]) rfl rfl rfl hf' (fun x => narSlot _ _ x))) $$ Hsb; iintro Hsb
  ihave Hsb := (sent_1 D c 1) $$ Hsb
  iapply (send_1 D K c 1 64 rfl (dev8_eq c) (off := ![1, 0, 0]) rfl rfl rfl rfl rfl) $$ [Ht Hsb HO]
  · iframe HR Ht Hsb HO
  iintro ⟨Hf, HO⟩
  iapply (ld c 12 (sub_univ _)) $$ Hx; iintro Hx
  iapply (ldW c 13 zero2) $$ Hw1; iintro Hw1
  ihave Hpt := (partAt_in D 1 1 1 c hf') $$ Hpt
  rw [wp_ret]; imodintro
  iapply Hk
  isplitr; · ipureintro; rfl
  iframe Hx Hw1 Hw2 HO Hpt Hf

/-- The third band's own product, what lands of it, their sum, and the second exchange's rows of it. -/
theorem part9_spec {Q : FVec F S32x768 .bf16 → sProp 𝕄} (v2 v27 : BitVec 32) :
    iprop(records D K ∗ weights D c ∗ OW c 5 ∗ partAny 2 c ∗ await (0, 2) c)
      ⊢ iprop((∀ w, (⌜∀ x : S1x32x768.Idx, w (ofSlot x) = SBf D 96 1 c ((Rect.unit (s := S3x96x768) ![2, 0, 0] ![1, 32, 768] inb_S3x96x768_S1x32x768_2_0_0).emb x)⌝
          ∗ weights D c ∗ OW c 5 ∗ partAt D 2 1 1 c ∗ recvPay D (0, 2) c ∗ semVal (recvCell (0, 2) c) 0) -∗ Q w)
        -∗ wp frame (wpE (defs₀ (F := F)) 𝒱₀ (c : Thread nD τ) none) Set.univ (call (k0_part9 (F := F)) c v2 v27
          (k0_pay13 (fun y => XB D c ((Rect.unit (s := S768x768) (k0_off8 c) ![64, 768] (k0_off8_inb c)).emb y)) (W1B D c))) Q) := by
  unfold call
  rw [k0_part9_eq_skeleton]
  unfold k0_part9_skel weights partAny
  simp only [Prog.lift, Prog.bind_op, Prog.bind_ret, Prog.pure_eq_ret]
  iintro ⟨#HR, ⟨Hx, Hw1, Hw2⟩, HO, ⟨%f, Hpt⟩, Haw⟩ Hk
  iapply (ldW c 14 zero2) $$ Hw2; iintro Hw2
  iapply (ld c 4 (keptS c 2 1 (by decide) 64 rfl ![320, 0] (off_one c 2 rfl) rfl)) $$ Hpt; iintro Hpt
  iapply (stPart D c 2 1 (by decide) 0 rfl ![320, 0] (off_one c 2 rfl) rfl (pt20 D c (k0_off8_inb c) rfl _)) $$ Hpt; iintro Hpt
  ihave Hpt := (partAt_out D 2 _ _ c) $$ Hpt
  icases Hpt with ⟨%g, %hg, Hpt⟩
  iapply (recv_wait D K c (0, 2) 5 (by decide) rfl rfl) $$ [Haw HO]
  · iframe HR Haw HO
  iintro ⟨Hr, Hz, HO⟩
  ihave Hr := (recv_0 D c 2) $$ Hr
  iapply (ld c 4 (keptS c 2 1 (by decide) 64 rfl ![320, 0] (off_one c 2 rfl) rfl)) $$ Hpt; iintro Hpt
  iapply (ld c 6 (slotR 2 1 64 rfl ![2, 0, 0] rfl rfl rfl).subset) $$ Hr; iintro Hr
  iapply (ld c 4 (keptS c 2 1 (by decide) 64 rfl ![320, 0] (off_one c 2 rfl) rfl)) $$ Hpt; iintro Hpt
  ihave Hr := (recv_0' D c 2) $$ Hr
  iapply (stPart D c 2 1 (by decide) 1 rfl ![320, 0] (off_one c 2 rfl) rfl
    (addW D c 2 0 1 (sub_same _ _ _) rfl (off_one c 2 rfl) rfl (off' := ![2, 0, 0]) rfl rfl rfl hg (fun x => addLanded _ _ _ _ x))) $$ Hpt; iintro Hpt
  ihave Hpt := (partAt_out D 2 _ _ c) $$ Hpt
  icases Hpt with ⟨%f', %hf', Hpt⟩
  iapply (ld c 4 (sibS c 2 1 (by decide) 32 rfl (k0_off9 c) (off9_eq c) rfl)) $$ Hpt; iintro Hpt
  ihave Hpt := (partAt_in D 2 1 1 c hf') $$ Hpt
  rw [wp_ret]; imodintro
  iapply Hk
  isplitr
  · ipureintro
    exact slotW D c 2 1 (by decide) rfl (off9_eq c) rfl (off' := ![2, 0, 0]) rfl rfl rfl hf' (w := fun x => nar (f' ((Rect.unit (s := S384x768) (k0_off9 c) ![32, 768] (k0_off9_inb c)).emb (ofSlot x)))) (fun x => rfl)
  iframe Hx Hw1 Hw2 HO Hpt Hr Hz

/-- The second exchange's rows of the third band, sent; what lands of the first band's. -/
theorem part10_spec {Q : (Σ' (v281 : BitVec 32) (v283 : BitVec 32), Vec F S96x768 .f32) → sProp 𝕄} (v2 v27 v124 v175 : BitVec 32) (w : FVec F S32x768 .bf16)
    (hw : ∀ x : S1x32x768.Idx, w (ofSlot x) = SBf D 96 1 c ((Rect.unit (s := S3x96x768) ![2, 0, 0] ![1, 32, 768] inb_S3x96x768_S1x32x768_2_0_0).emb x)) :
    iprop(records D K ∗ slotAny 1 2 c ∗ todo (1, 2) c ∗ OW c 5 ∗ partAt D 0 1 1 c ∗ await (1, 0) c)
      ⊢ iprop((∀ r (f : Vec F S384x768 .f32), (⌜r.2.2 = fun x => f ((Rect.unit (s := S384x768) (k0_off10 c) ![96, 768] (k0_off10_inb c)).emb x)⌝ ∗ ⌜∀ i ∈ keptPart 0 1 c, f i = PTf D 0 1 c i⌝ ∗ (((c : Thread nD τ).loc cc0_scratch0) ↦[bandPart 0]{fullShare} f)
          ∗ inFlight (1, 2) c ∗ OW c 6 ∗ recvPay D (1, 0) c ∗ semVal (recvCell (1, 0) c) 0) -∗ Q r)
        -∗ wp frame (wpE (defs₀ (F := F)) 𝒱₀ (c : Thread nD τ) none) Set.univ (call (k0_part10 (F := F)) c v2 v27 v124 v175 w) Q) := by
  unfold call
  rw [k0_part10_eq_skeleton]
  unfold k0_part10_skel
  simp only [Prog.lift, Prog.bind_op, Prog.bind_ret, Prog.pure_eq_ret, slotAny_1]
  iintro ⟨#HR, ⟨%g, Hsb⟩, Ht, HO, Hpt, Haw⟩ Hk
  ihave Hpt := (partAt_out D 0 _ _ c) $$ Hpt
  icases Hpt with ⟨%f, %hf, Hpt⟩
  iapply (ld c 10 (slotR 2 2 32 rfl ![2, 0, 0] rfl rfl rfl).subset) $$ Hsb; iintro Hsb
  iapply (stA c 10 (slotR 2 2 32 rfl ![2, 0, 0] rfl rfl rfl) (SBf D 96 1 c)
    (fun x => (shapeCast_addUnit_apply _ _ _ x).trans (hw x))) $$ Hsb; iintro Hsb
  ihave Hsb := (sent_1 D c 2) $$ Hsb
  iapply (send_1 D K c 2 32 rfl (dev9_eq c) (off := ![2, 0, 0]) rfl rfl rfl rfl rfl) $$ [Ht Hsb HO]
  · iframe HR Ht Hsb HO
  iintro ⟨Hf, HO⟩
  iapply (recv_wait D K c (1, 0) 6 (by decide) rfl rfl) $$ [Haw HO]
  · iframe HR Haw HO
  iintro ⟨Hr, Hz, HO⟩
  iapply (ld c 4 (keptS c 0 2 (by decide) 96 rfl (k0_off10 c) (off10_eq c) rfl)) $$ Hpt; iintro Hpt
  rw [wp_ret]; imodintro
  iapply Hk
  isplitr; · ipureintro; rfl
  isplitr; · ipureintro; exact hf
  iframe Hpt Hf HO Hr Hz

/-- The first band's second sum, and the third exchange's rows of it, sent. -/
theorem part11_spec {Q : (Σ' (v324 : BitVec 32) (v326 : BitVec 32), BitVec 32) → sProp 𝕄} (v2 v23 v175 v177 : BitVec 32) (f : Vec F S384x768 .f32)
    (hf : ∀ i ∈ keptPart 0 1 c, f i = PTf D 0 1 c i) :
    iprop(records D K ∗ (((c : Thread nD τ).loc cc0_scratch0) ↦[bandPart 0]{fullShare} f) ∗ recvPay D (1, 0) c ∗ slotAny 2 0 c ∗ todo (2, 0) c ∗ OW c 6)
      ⊢ iprop((∀ r, (partAt D 0 2 2 c ∗ recvPay D (1, 0) c ∗ inFlight (2, 0) c ∗ OW c 7) -∗ Q r)
        -∗ wp frame (wpE (defs₀ (F := F)) 𝒱₀ (c : Thread nD τ) none) Set.univ (call (k0_part11 (F := F)) c v2 v23 v175 v177
          (fun x => f ((Rect.unit (s := S384x768) (k0_off10 c) ![96, 768] (k0_off10_inb c)).emb x))) Q) := by
  unfold call
  rw [k0_part11_eq_skeleton]
  unfold k0_part11_skel
  simp only [Prog.lift, Prog.bind_op, Prog.bind_ret, Prog.pure_eq_ret, slotAny_2]
  iintro ⟨#HR, Hpt, Hr, ⟨%g, Hsb⟩, Ht, HO⟩ Hk
  ihave Hr := (recv_1 D c 0) $$ Hr
  iapply (ld c 7 (slotR 0 2 96 rfl ![0, 0, 0] rfl rfl rfl).subset) $$ Hr; iintro Hr
  ihave Hr := (recv_1' D c 0) $$ Hr
  iapply (ld c 4 (keptS c 0 2 (by decide) 96 rfl (k0_off10 c) (off10_eq c) rfl)) $$ Hpt; iintro Hpt
  iapply (stPart D c 0 2 (by decide) 2 rfl (k0_off10 c) (off10_eq c) rfl
    (addW D c 0 1 1 (keptPart_kept 0 c 1 (by decide)) rfl (off10_eq c) rfl (off' := ![0, 0, 0]) rfl rfl rfl hf (fun x => addLanded _ _ _ _ x))) $$ Hpt; iintro Hpt
  ihave Hpt := (partAt_out D 0 _ _ c) $$ Hpt
  icases Hpt with ⟨%f', %hf', Hpt⟩
  iapply (ld c 4 (sibS c 0 2 (by decide) 48 rfl (k0_off11 c) (off11_eq c) rfl)) $$ Hpt; iintro Hpt
  iapply (ld c 11 (slotR 0 3 48 rfl ![0, 0, 0] rfl rfl rfl).subset) $$ Hsb; iintro Hsb
  iapply (stA c 11 (slotR 0 3 48 rfl ![0, 0, 0] rfl rfl rfl) (SBf D 48 2 c)
    (slotW D c 0 2 (by decide) rfl (off11_eq c) rfl (off' := ![0, 0, 0]) rfl rfl rfl hf' (fun x => narSlot _ _ x))) $$ Hsb; iintro Hsb
  ihave Hsb := (sent_2 D c 0) $$ Hsb
  iapply (send_2 D K c 0 48 rfl (dev10_eq c) (off := ![0, 0, 0]) rfl rfl rfl rfl rfl) $$ [Ht Hsb HO]
  · iframe HR Ht Hsb HO
  iintro ⟨Hf, HO⟩
  ihave Hpt := (partAt_in D 0 2 2 c hf') $$ Hpt
  rw [wp_ret]; imodintro
  iapply Hk
  iframe Hpt Hr Hf HO

/-- The second band's second sum, and the third exchange's rows of it. -/
theorem part12_spec {Q : PUnit → sProp 𝕄} (v2 v27 v228 v327 : BitVec 32) :
    iprop(records D K ∗ partAt D 1 1 1 c ∗ await (1, 1) c ∗ slotAny 2 1 c ∗ OW c 7)
      ⊢ iprop((∀ r, (partAt D 1 2 2 c ∗ recvPay D (1, 1) c ∗ semVal (recvCell (1, 1) c) 0 ∗ sendPay D (2, 1) c ∗ OW c 7) -∗ Q r)
        -∗ wp frame (wpE (defs₀ (F := F)) 𝒱₀ (c : Thread nD τ) none) Set.univ (call (k0_part12 (F := F)) c v2 v27 v228 v327) Q) := by
  unfold call
  rw [k0_part12_eq_skeleton]
  unfold k0_part12_skel
  simp only [Prog.lift, Prog.bind_op, Prog.bind_ret, Prog.pure_eq_ret, slotAny_2]
  iintro ⟨#HR, Hpt, Haw, ⟨%g, Hsb⟩, HO⟩ Hk
  ihave Hpt := (partAt_out D 1 _ _ c) $$ Hpt
  icases Hpt with ⟨%f, %hf, Hpt⟩
  iapply (recv_wait D K c (1, 1) 7 (by decide) rfl rfl) $$ [Haw HO]
  · iframe HR Haw HO
  iintro ⟨Hr, Hz, HO⟩
  ihave Hr := (recv_1 D c 1) $$ Hr
  iapply (ld c 4 (keptS c 1 2 (by decide) 64 rfl (k0_off12 c) (off12_eq c) rfl)) $$ Hpt; iintro Hpt
  iapply (ld c 7 (slotR 1 2 64 rfl ![1, 0, 0] rfl rfl rfl).subset) $$ Hr; iintro Hr
  ihave Hr := (recv_1' D c 1) $$ Hr
  iapply (ld c 4 (keptS c 1 2 (by decide) 64 rfl (k0_off12 c) (off12_eq c) rfl)) $$ Hpt; iintro Hpt
  iapply (stPart D c 1 2 (by decide) 2 rfl (k0_off12 c) (off12_eq c) rfl
    (addW D c 1 1 1 (keptPart_kept 1 c 1 (by decide)) rfl (off12_eq c) rfl (off' := ![1, 0, 0]) rfl rfl rfl hf (fun x => addLanded _ _ _ _ x))) $$ Hpt; iintro Hpt
  ihave Hpt := (partAt_out D 1 _ _ c) $$ Hpt
  icases Hpt with ⟨%f', %hf', Hpt⟩
  iapply (ld c 4 (sibS c 1 2 (by decide) 32 rfl (k0_off13 c) (off13_eq c) rfl)) $$ Hpt; iintro Hpt
  iapply (ld c 11 (slotR 1 3 32 rfl ![1, 0, 0] rfl rfl rfl).subset) $$ Hsb; iintro Hsb
  iapply (stA c 11 (slotR 1 3 32 rfl ![1, 0, 0] rfl rfl rfl) (SBf D 48 2 c)
    (slotW D c 1 2 (by decide) rfl (off13_eq c) rfl (off' := ![1, 0, 0]) rfl rfl rfl hf' (fun x => narSlot _ _ x))) $$ Hsb; iintro Hsb
  ihave Hsb := (sent_2 D c 1) $$ Hsb
  ihave Hpt := (partAt_in D 1 2 2 c hf') $$ Hpt
  rw [wp_ret]; imodintro
  iapply Hk
  iframe Hpt Hr Hz Hsb HO

end Parts

end Cert.Mlp

end
-- ==== Proof.Shares.lean ====
/-
  The result buffer while its rows are gathered: the shares of each region sent, landed and kept.
-/
module

public import proofs.«01_k».proof.Proof.State

@[expose] public section

set_option maxRecDepth 8000

noncomputable section

namespace Cert.Mlp

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Shares
variable (D : Inp F) (c : Dev nD) (b : Fin 3)

/-- The share of the rows still to be sent on. -/
abbrev shA : PosShare TreeShare := fullShare.right
abbrev shB : PosShare TreeShare := fullShare.right.right

/-- Rows of the result buffer, at their final values. -/
def rows (S : Finset S768x768.Idx) (q : PosShare TreeShare) (c : Dev nD) : sProp 𝕄 := ((c : Thread nD τ).loc cc0_scratch1) ↦[S]{q} RESf D

theorem rows_share (S : Finset S768x768.Idx) (q : PosShare TreeShare) : (rows D S q c : sProp 𝕄) ⊣⊢ iprop(rows D S q.left c ∗ rows D S q.right c) :=
  pointsTo_share (PosShare.mem_left_op_right q)
theorem rows_kept (l : Fin 3) {m m' : ℕ} (hm : m = l.val) (hm' : m' = l.val + 1) (q : PosShare TreeShare) :
    (rows D (keptSet b m c) q c : sProp 𝕄) ⊣⊢ iprop(rows D (keptSet b m' c) q c ∗ rows D (sibSet b m' c) q c) := by
  subst hm hm'; rw [← kept_union b c l]; exact pointsTo_union (kept_disjoint b c l)

/-- After `k` exchanges of band `b`: the rows held, to be sent on, -/
def held : ℕ → sProp 𝕄
  | 0 => rows D (keptSet b 3 c) shA c
  | 1 => rows D (keptSet b 2 c) shB c
  | 2 => rows D (keptSet b 1 c) sh3 c
  | _ => rows D (keptSet b 0 c) sh3 c
/-- and the landed rows' shares set aside at the exchange. -/
def aside : ℕ → sProp 𝕄
  | 1 => rows D (sibSet b 3 c) sh0 c
  | 2 => iprop(rows D (sibSet b 2 c) sh0 c ∗ rows D (sibSet b 2 c) sh1 c)
  | _ => iprop(rows D (sibSet b 1 c) sh0 c ∗ rows D (sibSet b 1 c) sh1 c ∗ rows D (sibSet b 1 c) sh2 c)

theorem res_a : (rows D (keptSet b 3 c) fullShare c : sProp 𝕄) ⊣⊢ iprop(sendPay D (3, b) c ∗ held D c b 0) := rows_share D c _ _

theorem res_b : iprop(recvPay D (3, b) c ∗ held D c b 0) ⊣⊢ iprop(sendPay D (4, b) c ∗ aside D c b 1 ∗ held D c b 1) := by
  show iprop(rows D (sibSet b 3 c) fullShare c ∗ rows D (keptSet b 3 c) shA c) ⊣⊢ iprop(rows D (keptSet b 2 c) sh1 c ∗ rows D (sibSet b 3 c) sh0 c ∗ rows D (keptSet b 2 c) shB c)
  constructor
  · iintro ⟨Hs, Hk⟩
    ihave Hs := (rows_share D c (sibSet b 3 c) fullShare).1 $$ Hs
    icases Hs with ⟨Hs0, Hs⟩
    ihave Hu := (rows_kept D c b 2 (m := 2) (m' := 3) rfl rfl shA).2 $$ [Hk Hs]
    · iframe Hk Hs
    ihave Hu := (rows_share D c _ shA).1 $$ Hu
    icases Hu with ⟨H1, H2⟩
    iframe H1 Hs0 H2
  · iintro ⟨H1, Hs0, H2⟩
    ihave Hu := (rows_share D c (keptSet b 2 c) shA).2 $$ [H1 H2]
    · iframe H1 H2
    ihave Hu := (rows_kept D c b 2 (m := 2) (m' := 3) rfl rfl shA).1 $$ Hu
    icases Hu with ⟨Hk, Hs⟩
    ihave Hs := (rows_share D c (sibSet b 3 c) fullShare).2 $$ [Hs0 Hs]
    · iframe Hs0 Hs
    iframe Hs Hk

theorem res_c : iprop(recvPay D (4, b) c ∗ held D c b 1) ⊣⊢ iprop(sendPay D (5, b) c ∗ aside D c b 2 ∗ held D c b 2) := by
  show iprop(rows D (sibSet b 2 c) fullShare c ∗ rows D (keptSet b 2 c) shB c)
    ⊣⊢ iprop(rows D (keptSet b 1 c) sh2 c ∗ (rows D (sibSet b 2 c) sh0 c ∗ rows D (sibSet b 2 c) sh1 c) ∗ rows D (keptSet b 1 c) sh3 c)
  constructor
  · iintro ⟨Hs, Hk⟩
    ihave Hs := (rows_share D c (sibSet b 2 c) fullShare).1 $$ Hs
    icases Hs with ⟨Hs0, Hs⟩
    ihave Hs := (rows_share D c (sibSet b 2 c) shA).1 $$ Hs
    icases Hs with ⟨Hs1, Hs⟩
    ihave Hu := (rows_kept D c b 1 (m := 1) (m' := 2) rfl rfl shB).2 $$ [Hk Hs]
    · iframe Hk Hs
    ihave Hu := (rows_share D c _ shB).1 $$ Hu
    icases Hu with ⟨H1, H2⟩
    iframe H1 Hs0 Hs1 H2
  · iintro ⟨H1, ⟨Hs0, Hs1⟩, H2⟩
    ihave Hu := (rows_share D c (keptSet b 1 c) shB).2 $$ [H1 H2]
    · iframe H1 H2
    ihave Hu := (rows_kept D c b 1 (m := 1) (m' := 2) rfl rfl shB).1 $$ Hu
    icases Hu with ⟨Hk, Hs⟩
    ihave Hs := (rows_share D c (sibSet b 2 c) shA).2 $$ [Hs1 Hs]
    · iframe Hs1 Hs
    ihave Hs := (rows_share D c (sibSet b 2 c) fullShare).2 $$ [Hs0 Hs]
    · iframe Hs0 Hs
    iframe Hs Hk

theorem res_d : iprop(recvPay D (5, b) c ∗ held D c b 2) ⊣⊢ iprop(aside D c b 3 ∗ held D c b 3) := by
  show iprop(rows D (sibSet b 1 c) fullShare c ∗ rows D (keptSet b 1 c) sh3 c)
    ⊣⊢ iprop((rows D (sibSet b 1 c) sh0 c ∗ rows D (sibSet b 1 c) sh1 c ∗ rows D (sibSet b 1 c) sh2 c) ∗ rows D (keptSet b 0 c) sh3 c)
  constructor
  · iintro ⟨Hs, Hk⟩
    ihave Hs := (rows_share D c (sibSet b 1 c) fullShare).1 $$ Hs
    icases Hs with ⟨Hs0, Hs⟩
    ihave Hs := (rows_share D c (sibSet b 1 c) shA).1 $$ Hs
    icases Hs with ⟨Hs1, Hs⟩
    ihave Hs := (rows_share D c (sibSet b 1 c) shB).1 $$ Hs
    icases Hs with ⟨Hs2, Hs⟩
    ihave Hu := (rows_kept D c b 0 (m := 0) (m' := 1) rfl rfl sh3).2 $$ [Hk Hs]
    · iframe Hk Hs
    iframe Hs0 Hs1 Hs2 Hu
  · iintro ⟨⟨Hs0, Hs1, Hs2⟩, Hu⟩
    ihave Hu := (rows_kept D c b 0 (m := 0) (m' := 1) rfl rfl sh3).1 $$ Hu
    icases Hu with ⟨Hk, Hs⟩
    ihave Hs := (rows_share D c (sibSet b 1 c) shB).2 $$ [Hs2 Hs]
    · iframe Hs2 Hs
    ihave Hs := (rows_share D c (sibSet b 1 c) shA).2 $$ [Hs1 Hs]
    · iframe Hs1 Hs
    ihave Hs := (rows_share D c (sibSet b 1 c) fullShare).2 $$ [Hs0 Hs]
    · iframe Hs0 Hs
    iframe Hs Hk

/-- What a device holds of a band once its copies have been waited for: together, all its rows. -/
theorem band_back : iprop((sendPay D (3, b) c ∗ sendPay D (4, b) c ∗ sendPay D (5, b) c) ∗ (aside D c b 1 ∗ aside D c b 2 ∗ aside D c b 3) ∗ held D c b 3)
    ⊢ (rows D (keptSet b 0 c) fullShare c : sProp 𝕄) := by
  iintro ⟨⟨H3, H4, H5⟩, ⟨A1, A2, A3⟩, H⟩
  ihave H := (res_d D c b).2 $$ [A3 H]
  · iframe A3 H
  icases H with ⟨R5, H⟩
  ihave H := (res_c D c b).2 $$ [H5 A2 H]
  · iframe H5 A2 H
  icases H with ⟨R4, H⟩
  ihave H := (res_b D c b).2 $$ [H4 A1 H]
  · iframe H4 A1 H
  icases H with ⟨R3, H⟩
  ihave H := (res_a D c b).2 $$ [H3 H]
  · iframe H3 H
  ihave H := (rows_kept D c b 2 (m := 2) (m' := 3) rfl rfl fullShare).2 $$ [H R3]
  · isplitl [H]; · iexact H
    iapply (show (recvPay D (3, b) c : sProp 𝕄) ⊢ rows D (sibSet b 3 c) fullShare c from Entails.of_eq rfl); iexact R3
  ihave H := (rows_kept D c b 1 (m := 1) (m' := 2) rfl rfl fullShare).2 $$ [H R4]
  · isplitl [H]; · iexact H
    iapply (show (recvPay D (4, b) c : sProp 𝕄) ⊢ rows D (sibSet b 2 c) fullShare c from Entails.of_eq rfl); iexact R4
  ihave H := (rows_kept D c b 0 (m := 0) (m' := 1) rfl rfl fullShare).2 $$ [H R5]
  · isplitl [H]; · iexact H
    iapply (show (recvPay D (5, b) c : sProp 𝕄) ⊢ rows D (sibSet b 1 c) fullShare c from Entails.of_eq rfl); iexact R5
  iexact H

/-- The three bands are the buffer. -/
theorem bands_all (q : PosShare TreeShare) :
    iprop(rows D (keptSet 0 0 c) q c ∗ rows D (keptSet 1 0 c) q c ∗ rows D (keptSet 2 0 c) q c) ⊣⊢ (rows D Finset.univ q c : sProp 𝕄) := by
  have e1 : keptSet 1 0 c ∪ keptSet 2 0 c = (rowSet 384 384 : Finset S768x768.Idx) := rowSet_union 384 256 128
  have d1 : Disjoint (keptSet 1 0 c) (keptSet 2 0 c) := rowSet_disjoint (.inl (Nat.le_refl _))
  have e0 : keptSet 0 0 c ∪ (rowSet 384 384 : Finset S768x768.Idx) = Finset.univ := by
    refine (rowSet_union (n := 768) (m := 768) 0 384 384).trans (Finset.eq_univ_iff_forall.mpr fun i => ?_)
    rw [mem_rowSet]; have := (i 0).isLt; exact ⟨Nat.zero_le _, this⟩
  have d0 : Disjoint (keptSet 0 0 c) (rowSet 384 384 : Finset S768x768.Idx) := rowSet_disjoint (.inl (Nat.le_refl _))
  have h1 : (rows D (rowSet 384 384) q c : sProp 𝕄) ⊣⊢ iprop(rows D (keptSet 1 0 c) q c ∗ rows D (keptSet 2 0 c) q c) := by
    rw [← e1]; exact pointsTo_union d1
  have h0 : (rows D Finset.univ q c : sProp 𝕄) ⊣⊢ iprop(rows D (keptSet 0 0 c) q c ∗ rows D (rowSet 384 384) q c) := by
    rw [← e0]; exact pointsTo_union d0
  constructor
  · iintro ⟨H0, H1, H2⟩
    ihave H := h1.2 $$ [H1 H2]
    · iframe H1 H2
    iapply h0.2
    iframe H0 H
  · iintro H
    ihave H := h0.1 $$ H
    icases H with ⟨H0, H⟩
    ihave H := h1.1 $$ H
    icases H with ⟨H1, H2⟩
    iframe H0 H1 H2

theorem held_all : iprop(held D c 0 3 ∗ held D c 1 3 ∗ held D c 2 3) ⊣⊢ (rows D Finset.univ sh3 c : sProp 𝕄) := bands_all D c sh3

/-- The rows a device computes, as the body stores them. -/
theorem resW {n : ℕ} (hn : n = lvl b 3) {off : Fin 2 → ℕ} (h0 : off 0 = pbase b + (kept b 3 c - kept b 1 c)) (h1 : off 1 = 0) {inb}
    {off' : Fin 2 → ℕ} {inb'} (h0' : off' 0 = kept b 3 c) (h1' : off' 1 = 0)
    {f : Vec F S384x768 .f32} (hf : ∀ i ∈ keptPart b 3 c, f i = PTf D b 3 c i)
    {w : Vec F ⟨2, ![n, 768]⟩ .bf16} (hw : ∀ x, w x = nar (f ((Rect.unit (s := S384x768) off ![n, 768] inb).emb x))) (x) :
    w x = RESf D ((Rect.unit (s := S768x768) off' ![n, 768] inb').emb x) :=
  (hw x).trans (resStep D c b hn off inb h0 h1 off' inb' h0' h1' f (fun i hi => hf i (by rw [h0, hn] at hi; exact hi)) x)
theorem resR (l h : ℕ) (hh : h = lvl b l) (off : Fin 2 → ℕ) {inb} (h0 : off 0 = kept b l c) (h1 : off 1 = 0) :
    (Rect.unit (s := S768x768) off ![h, 768] inb).set = keptSet b l c := by
  subst hh; exact unit_rowSet off inb _ h0 h1
theorem rows_in (S : Finset S768x768.Idx) (q : PosShare TreeShare) : (((c : Thread nD τ).loc cc0_scratch1) ↦[S]{q} RESf D : sProp 𝕄) ⊢ rows D S q c := Entails.of_eq rfl
theorem rows_out (S : Finset S768x768.Idx) (q : PosShare TreeShare) : (rows D S q c : sProp 𝕄) ⊢ ((c : Thread nD τ).loc cc0_scratch1) ↦[S]{q} RESf D := Entails.of_eq rfl

end Shares

end Cert.Mlp

end
-- ==== Proof.PartsB.lean ====
/-
  The second half of the body: the third exchange of the sums, the gathering of the result and the last waits.
-/
module

public import proofs.«01_k».proof.Proof.Shares

@[expose] public section

set_option maxRecDepth 8000

noncomputable section

namespace Cert.Mlp

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (D : Inp F) (K : Dev nD × Key → ℕ) (c : Dev nD)

/-- The second band's third exchange, sent; the third band's second sum. -/
theorem part13_spec {Q : (Σ' (v367 : BitVec 32) (v369 : BitVec 32), BitVec 32) → sProp 𝕄} (v2 v25 v27 v228 v230 v281 : BitVec 32) :
    iprop(records D K ∗ sendPay D (2, 1) c ∗ todo (2, 1) c ∗ OW c 7 ∗ partAt D 2 1 1 c ∗ await (1, 2) c)
      ⊢ iprop((∀ r, (inFlight (2, 1) c ∗ OW c 8 ∗ partAt D 2 2 2 c ∗ recvPay D (1, 2) c ∗ semVal (recvCell (1, 2) c) 0) -∗ Q r)
        -∗ wp frame (wpE (defs₀ (F := F)) 𝒱₀ (c : Thread nD τ) none) Set.univ (call (k0_part13 (F := F)) c v2 v25 v27 v228 v230 v281) Q) := by
  unfold call
  rw [k0_part13_eq_skeleton]
  unfold k0_part13_skel
  simp only [Prog.lift, Prog.bind_op, Prog.bind_ret, Prog.pure_eq_ret]
  iintro ⟨#HR, Hs, Ht, HO, Hpt, Haw⟩ Hk
  ihave Hpt := (partAt_out D 2 _ _ c) $$ Hpt
  icases Hpt with ⟨%f, %hf, Hpt⟩
  iapply (send_2 D K c 1 32 rfl (dev11_eq c) (off := ![1, 0, 0]) rfl rfl rfl rfl rfl) $$ [Ht Hs HO]
  · iframe HR Ht Hs HO
  iintro ⟨Hf, HO⟩
  iapply (recv_wait D K c (1, 2) 8 (by decide) rfl rfl) $$ [Haw HO]
  · iframe HR Haw HO
  iintro ⟨Hr, Hz, HO⟩
  ihave Hr := (recv_1 D c 2) $$ Hr
  iapply (ld c 4 (keptS c 2 2 (by decide) 32 rfl (k0_off14 c) (off14_eq c) rfl)) $$ Hpt; iintro Hpt
  iapply (ld c 7 (slotR 2 2 32 rfl ![2, 0, 0] rfl rfl rfl).subset) $$ Hr; iintro Hr
  ihave Hr := (recv_1' D c 2) $$ Hr
  iapply (ld c 4 (keptS c 2 2 (by decide) 32 rfl (k0_off14 c) (off14_eq c) rfl)) $$ Hpt; iintro Hpt
  iapply (stPart D c 2 2 (by decide) 2 rfl (k0_off14 c) (off14_eq c) rfl
    (addW D c 2 1 1 (keptPart_kept 2 c 1 (by decide)) rfl (off14_eq c) rfl (off' := ![2, 0, 0]) rfl rfl rfl hf (fun x => addLanded _ _ _ _ x))) $$ Hpt; iintro Hpt
  rw [wp_ret]; imodintro
  iapply Hk
  iframe Hf HO Hpt Hr Hz

/-- The third band's third exchange, sent. -/
theorem part14_spec {Q : (Σ' (v410 : BitVec 32), BitVec 32) → sProp 𝕄} (v2 v25 v281 v283 v390 : BitVec 32) :
    iprop(records D K ∗ partAt D 2 2 2 c ∗ slotAny 2 2 c ∗ todo (2, 2) c ∗ OW c 8)
      ⊢ iprop((∀ r, (partAt D 2 2 2 c ∗ inFlight (2, 2) c ∗ OW c 9) -∗ Q r)
        -∗ wp frame (wpE (defs₀ (F := F)) 𝒱₀ (c : Thread nD τ) none) Set.univ (call (k0_part14 (F := F)) c v2 v25 v281 v283 v390) Q) := by
  unfold call
  rw [k0_part14_eq_skeleton]
  unfold k0_part14_skel
  simp only [Prog.lift, Prog.bind_op, Prog.bind_ret, Prog.pure_eq_ret, slotAny_2]
  iintro ⟨#HR, Hpt, ⟨%g, Hsb⟩, Ht, HO⟩ Hk
  ihave Hpt := (partAt_out D 2 _ _ c) $$ Hpt
  icases Hpt with ⟨%f', %hf', Hpt⟩
  iapply (ld c 4 (sibS c 2 2 (by decide) 16 rfl (k0_off15 c) (off15_eq c) rfl)) $$ Hpt; iintro Hpt
  iapply (ld c 11 (slotR 2 3 16 rfl ![2, 0, 0] rfl rfl rfl).subset) $$ Hsb; iintro Hsb
  iapply (stA c 11 (slotR 2 3 16 rfl ![2, 0, 0] rfl rfl rfl) (SBf D 48 2 c)
    (slotW D c 2 2 (by decide) rfl (off15_eq c) rfl (off' := ![2, 0, 0]) rfl rfl rfl hf' (fun x => narSlot _ _ x))) $$ Hsb; iintro Hsb
  ihave Hsb := (sent_2 D c 2) $$ Hsb
  iapply (send_2 D K c 2 16 rfl (dev12_eq c) (off := ![2, 0, 0]) rfl rfl rfl rfl rfl) $$ [Ht Hsb HO]
  · iframe HR Ht Hsb HO
  iintro ⟨Hf, HO⟩
  ihave Hpt := (partAt_in D 2 2 2 c hf') $$ Hpt
  rw [wp_ret]; imodintro
  iapply Hk
  iframe Hpt Hf HO

/-- The first band's last sum, narrowed into the result's rows, and sent. -/
theorem part15_spec {Q : BitVec 32 → sProp 𝕄} (v2 v23 v324 v326 : BitVec 32) :
    iprop(records D K ∗ await (2, 0) c ∗ OW c 9 ∗ partAt D 0 2 2 c ∗ resAny 0 c ∗ todo (3, 0) c)
      ⊢ iprop((∀ r, (partAt D 0 3 3 c ∗ recvPay D (2, 0) c ∗ semVal (recvCell (2, 0) c) 0 ∗ inFlight (3, 0) c ∗ held D c 0 0 ∗ OW c 10) -∗ Q r)
        -∗ wp frame (wpE (defs₀ (F := F)) 𝒱₀ (c : Thread nD τ) none) Set.univ (call (k0_part15 (F := F)) c v2 v23 v324 v326) Q) := by
  unfold call
  rw [k0_part15_eq_skeleton]
  unfold k0_part15_skel resAny
  simp only [Prog.lift, Prog.bind_op, Prog.bind_ret, Prog.pure_eq_ret]
  iintro ⟨#HR, Haw, HO, Hpt, ⟨%g, Hres⟩, Ht⟩ Hk
  ihave Hpt := (partAt_out D 0 _ _ c) $$ Hpt
  icases Hpt with ⟨%f, %hf, Hpt⟩
  iapply (recv_wait D K c (2, 0) 9 (by decide) rfl rfl) $$ [Haw HO]
  · iframe HR Haw HO
  iintro ⟨Hr, Hz, HO⟩
  ihave Hr := (recv_2 D c 0) $$ Hr
  iapply (ld c 4 (keptS c 0 3 (by decide) 48 rfl (k0_off16 c) (off16_eq c) rfl)) $$ Hpt; iintro Hpt
  iapply (ld c 8 (slotR 0 3 48 rfl ![0, 0, 0] rfl rfl rfl).subset) $$ Hr; iintro Hr
  ihave Hr := (recv_2' D c 0) $$ Hr
  iapply (ld c 4 (keptS c 0 3 (by decide) 48 rfl (k0_off16 c) (off16_eq c) rfl)) $$ Hpt; iintro Hpt
  iapply (stPart D c 0 3 (by decide) 3 rfl (k0_off16 c) (off16_eq c) rfl
    (addW D c 0 2 2 (keptPart_kept 0 c 2 (by decide)) rfl (off16_eq c) rfl (off' := ![0, 0, 0]) rfl rfl rfl hf (fun x => addLanded _ _ _ _ x))) $$ Hpt; iintro Hpt
  ihave Hpt := (partAt_out D 0 _ _ c) $$ Hpt
  icases Hpt with ⟨%f', %hf', Hpt⟩
  iapply (ld c 4 (keptS c 0 3 (by decide) 48 rfl (k0_off16 c) (off16_eq c) rfl)) $$ Hpt; iintro Hpt
  ihave Hpt := (partAt_in D 0 3 3 c hf') $$ Hpt
  iapply (ld c 5 (resR c 0 3 48 rfl (k0_off17 c) (off17_eq c) rfl).subset) $$ Hres; iintro Hres
  iapply (stA c 5 (resR c 0 3 48 rfl (k0_off17 c) (off17_eq c) rfl) (RESf D)
    (resW D c 0 rfl (off16_eq c) rfl (off17_eq c) rfl hf' (fun x => narRows _ _ x))) $$ Hres; iintro Hres
  ihave Hres := (rows_in D c _ _) $$ Hres
  ihave Hres := (res_a D c 0).1 $$ Hres
  icases Hres with ⟨Hs, Hh⟩
  iapply (send_rows D K c (3, 0) 0 2 sh0 rfl rfl rfl (fun _ => rfl) (fun _ => rfl) 48 rfl (dev13_eq c) (off := k0_off18 c) (off18_eq c) rfl rfl rfl) $$ [Ht Hs HO]
  · iframe HR Ht Hs HO
  iintro ⟨Hf, HO⟩
  rw [wp_ret]; imodintro
  iapply Hk
  iframe Hpt Hr Hz Hf Hh HO

/-- The second band's. -/
theorem part16_spec {Q : (Σ' (v486 : BitVec 32), BitVec 32) → sProp 𝕄} (v2 v27 v367 v369 : BitVec 32) :
    iprop(records D K ∗ await (2, 1) c ∗ OW c 10 ∗ partAt D 1 2 2 c ∗ resAny 1 c ∗ todo (3, 1) c)
      ⊢ iprop((∀ r, (partAt D 1 3 3 c ∗ recvPay D (2, 1) c ∗ semVal (recvCell (2, 1) c) 0 ∗ inFlight (3, 1) c ∗ held D c 1 0 ∗ OW c 11) -∗ Q r)
        -∗ wp frame (wpE (defs₀ (F := F)) 𝒱₀ (c : Thread nD τ) none) Set.univ (call (k0_part16 (F := F)) c v2 v27 v367 v369) Q) := by
  unfold call
  rw [k0_part16_eq_skeleton]
  unfold k0_part16_skel resAny
  simp only [Prog.lift, Prog.bind_op, Prog.bind_ret, Prog.pure_eq_ret]
  iintro ⟨#HR, Haw, HO, Hpt, ⟨%g, Hres⟩, Ht⟩ Hk
  ihave Hpt := (partAt_out D 1 _ _ c) $$ Hpt
  icases Hpt with ⟨%f, %hf, Hpt⟩
  iapply (recv_wait D K c (2, 1) 10 (by decide) rfl rfl) $$ [Haw HO]
  · iframe HR Haw HO
  iintro ⟨Hr, Hz, HO⟩
  ihave Hr := (recv_2 D c 1) $$ Hr
  iapply (ld c 4 (keptS c 1 3 (by decide) 32 rfl (k0_off19 c) (off19_eq c) rfl)) $$ Hpt; iintro Hpt
  iapply (ld c 8 (slotR 1 3 32 rfl ![1, 0, 0] rfl rfl rfl).subset) $$ Hr; iintro Hr
  ihave Hr := (recv_2' D c 1) $$ Hr
  iapply (ld c 4 (keptS c 1 3 (by decide) 32 rfl (k0_off19 c) (off19_eq c) rfl)) $$ Hpt; iintro Hpt
  iapply (stPart D c 1 3 (by decide) 3 rfl (k0_off19 c) (off19_eq c) rfl
    (addW D c 1 2 2 (keptPart_kept 1 c 2 (by decide)) rfl (off19_eq c) rfl (off' := ![1, 0, 0]) rfl rfl rfl hf (fun x => addLanded _ _ _ _ x))) $$ Hpt; iintro Hpt
  ihave Hpt := (partAt_out D 1 _ _ c) $$ Hpt
  icases Hpt with ⟨%f', %hf', Hpt⟩
  iapply (ld c 4 (keptS c 1 3 (by decide) 32 rfl (k0_off19 c) (off19_eq c) rfl)) $$ Hpt; iintro Hpt
  ihave Hpt := (partAt_in D 1 3 3 c hf') $$ Hpt
  iapply (ld c 5 (resR c 1 3 32 rfl (k0_off20 c) (off20_eq c) rfl).subset) $$ Hres; iintro Hres
  iapply (stA c 5 (resR c 1 3 32 rfl (k0_off20 c) (off20_eq c) rfl) (RESf D)
    (resW D c 1 rfl (off19_eq c) rfl (off20_eq c) rfl hf' (fun x => narRows _ _ x))) $$ Hres; iintro Hres
  ihave Hres := (rows_in D c _ _) $$ Hres
  ihave Hres := (res_a D c 1).1 $$ Hres
  icases Hres with ⟨Hs, Hh⟩
  iapply (send_rows D K c (3, 1) 1 2 sh0 rfl rfl rfl (fun _ => rfl) (fun _ => rfl) 32 rfl (dev14_eq c) (off := k0_off21 c) (off21_eq c) rfl rfl rfl) $$ [Ht Hs HO]
  · iframe HR Ht Hs HO
  iintro ⟨Hf, HO⟩
  rw [wp_ret]; imodintro
  iapply Hk
  iframe Hpt Hr Hz Hf Hh HO

/-- The third band's. -/
theorem part17_spec {Q : BitVec 32 → sProp 𝕄} (v2 v410 v412 v487 : BitVec 32) :
    iprop(records D K ∗ await (2, 2) c ∗ OW c 11 ∗ partAt D 2 2 2 c ∗ resAny 2 c ∗ todo (3, 2) c)
      ⊢ iprop((∀ r, (partAt D 2 3 3 c ∗ recvPay D (2, 2) c ∗ semVal (recvCell (2, 2) c) 0 ∗ inFlight (3, 2) c ∗ held D c 2 0 ∗ OW c 12) -∗ Q r)
        -∗ wp frame (wpE (defs₀ (F := F)) 𝒱₀ (c : Thread nD τ) none) Set.univ (call (k0_part17 (F := F)) c v2 v410 v412 v487) Q) := by
  unfold call
  rw [k0_part17_eq_skeleton]
  unfold k0_part17_skel resAny
  simp only [Prog.lift, Prog.bind_op, Prog.bind_ret, Prog.pure_eq_ret]
  iintro ⟨#HR, Haw, HO, Hpt, ⟨%g, Hres⟩, Ht⟩ Hk
  ihave Hpt := (partAt_out D 2 _ _ c) $$ Hpt
  icases Hpt with ⟨%f, %hf, Hpt⟩
  iapply (recv_wait D K c (2, 2) 11 (by decide) rfl rfl) $$ [Haw HO]
  · iframe HR Haw HO
  iintro ⟨Hr, Hz, HO⟩
  ihave Hr := (recv_2 D c 2) $$ Hr
  iapply (ld c 4 (keptS c 2 3 (by decide) 16 rfl (k0_off22 c) (off22_eq c) rfl)) $$ Hpt; iintro Hpt
  iapply (ld c 8 (slotR 2 3 16 rfl ![2, 0, 0] rfl rfl rfl).subset) $$ Hr; iintro Hr
  ihave Hr := (recv_2' D c 2) $$ Hr
  iapply (ld c 4 (keptS c 2 3 (by decide) 16 rfl (k0_off22 c) (off22_eq c) rfl)) $$ Hpt; iintro Hpt
  iapply (stPart D c 2 3 (by decide) 3 rfl (k0_off22 c) (off22_eq c) rfl
    (addW D c 2 2 2 (keptPart_kept 2 c 2 (by decide)) rfl (off22_eq c) rfl (off' := ![2, 0, 0]) rfl rfl rfl hf (fun x => addLanded _ _ _ _ x))) $$ Hpt; iintro Hpt
  ihave Hpt := (partAt_out D 2 _ _ c) $$ Hpt
  icases Hpt with ⟨%f', %hf', Hpt⟩
  iapply (ld c 4 (keptS c 2 3 (by decide) 16 rfl (k0_off22 c) (off22_eq c) rfl)) $$ Hpt; iintro Hpt
  ihave Hpt := (partAt_in D 2 3 3 c hf') $$ Hpt
  iapply (ld c 5 (resR c 2 3 16 rfl (k0_off23 c) (off23_eq c) rfl).subset) $$ Hres; iintro Hres
  iapply (stA c 5 (resR c 2 3 16 rfl (k0_off23 c) (off23_eq c) rfl) (RESf D)
    (resW D c 2 rfl (off22_eq c) rfl (off23_eq c) rfl hf' (fun x => narRows _ _ x))) $$ Hres; iintro Hres
  ihave Hres := (rows_in D c _ _) $$ Hres
  ihave Hres := (res_a D c 2).1 $$ Hres
  icases Hres with ⟨Hs, Hh⟩
  iapply (send_rows D K c (3, 2) 2 2 sh0 rfl rfl rfl (fun _ => rfl) (fun _ => rfl) 16 rfl (dev15_eq c) (off := k0_off24 c) (off24_eq c) rfl rfl rfl) $$ [Ht Hs HO]
  · iframe HR Ht Hs HO
  iintro ⟨Hf, HO⟩
  rw [wp_ret]; imodintro
  iapply Hk
  iframe Hpt Hr Hz Hf Hh HO

/-- The first band's rows landed of the first gathering, sent on; the second band's landed. -/
theorem part18_spec {Q : (Σ' (v523 : BitVec 32) (v542 : BitVec 32), BitVec 32) → sProp 𝕄} (v2 v25 v412 v449 z : BitVec 32) :
    iprop(records D K ∗ await (3, 0) c ∗ held D c 0 0 ∗ todo (4, 0) c ∗ await (3, 1) c ∗ OW c 12)
      ⊢ iprop((∀ r, (semVal (recvCell (3, 0) c) 0 ∗ inFlight (4, 0) c ∗ aside D c 0 1 ∗ held D c 0 1 ∗ recvPay D (3, 1) c ∗ semVal (recvCell (3, 1) c) 0 ∗ OW c 13) -∗ Q r)
        -∗ wp frame (wpE (defs₀ (F := F)) 𝒱₀ (c : Thread nD τ) none) Set.univ (call (k0_part18 (F := F)) c v2 v25 v412 v449 z) Q) := by
  unfold call
  rw [k0_part18_eq_skeleton]
  unfold k0_part18_skel
  simp only [Prog.lift, Prog.bind_op, Prog.bind_ret, Prog.pure_eq_ret]
  iintro ⟨#HR, Haw, Hh, Ht, Haw', HO⟩ Hk
  iapply (recv_wait D K c (3, 0) 12 (by decide) rfl rfl) $$ [Haw HO]
  · iframe HR Haw HO
  iintro ⟨Hr, Hz, HO⟩
  ihave H := (res_b D c 0).1 $$ [Hr Hh]
  · iframe Hr Hh
  icases H with ⟨Hs, Ha, Hh⟩
  iapply (send_rows D K c (4, 0) 0 1 sh1 rfl rfl rfl (fun _ => rfl) (fun _ => rfl) 96 rfl (dev16_eq c) (off := k0_off26 c) (off26_eq c) rfl rfl rfl) $$ [Ht Hs HO]
  · iframe HR Ht Hs HO
  iintro ⟨Hf, HO⟩
  iapply (recv_wait D K c (3, 1) 13 (by decide) rfl rfl) $$ [Haw' HO]
  · iframe HR Haw' HO
  iintro ⟨Hr, Hz', HO⟩
  rw [wp_ret]; imodintro
  iapply Hk
  iframe Hz Hf Ha Hh Hr Hz' HO

/-- The second and third bands' rows of the first gathering, sent on. -/
theorem part19_spec {Q : (Σ' (v561 : BitVec 32) (v580 : BitVec 32) (v582 : BitVec 32), BitVec 32) → sProp 𝕄} (v2 v23 v27 v486 v523 v551 : BitVec 32) :
    iprop(records D K ∗ recvPay D (3, 1) c ∗ held D c 1 0 ∗ todo (4, 1) c ∗ await (3, 2) c ∗ held D c 2 0 ∗ todo (4, 2) c ∗ OW c 13)
      ⊢ iprop((∀ r, (inFlight (4, 1) c ∗ aside D c 1 1 ∗ held D c 1 1 ∗ semVal (recvCell (3, 2) c) 0 ∗ inFlight (4, 2) c ∗ aside D c 2 1 ∗ held D c 2 1 ∗ OW c 15) -∗ Q r)
        -∗ wp frame (wpE (defs₀ (F := F)) 𝒱₀ (c : Thread nD τ) none) Set.univ (call (k0_part19 (F := F)) c v2 v23 v27 v486 v523 v551) Q) := by
  unfold call
  rw [k0_part19_eq_skeleton]
  unfold k0_part19_skel
  simp only [Prog.lift, Prog.bind_op, Prog.bind_ret, Prog.pure_eq_ret]
  iintro ⟨#HR, Hr, Hh, Ht, Haw, Hh', Ht', HO⟩ Hk
  ihave H := (res_b D c 1).1 $$ [Hr Hh]
  · iframe Hr Hh
  icases H with ⟨Hs, Ha, Hh⟩
  iapply (send_rows D K c (4, 1) 1 1 sh1 rfl rfl rfl (fun _ => rfl) (fun _ => rfl) 64 rfl (dev17_eq c) (off := k0_off28 c) (off28_eq c) rfl rfl rfl) $$ [Ht Hs HO]
  · iframe HR Ht Hs HO
  iintro ⟨Hf, HO⟩
  iapply (recv_wait D K c (3, 2) 14 (by decide) rfl rfl) $$ [Haw HO]
  · iframe HR Haw HO
  iintro ⟨Hr, Hz, HO⟩
  ihave H := (res_b D c 2).1 $$ [Hr Hh']
  · iframe Hr Hh'
  icases H with ⟨Hs, Ha', Hh'⟩
  iapply (send_rows D K c (4, 2) 2 1 sh1 rfl rfl rfl (fun _ => rfl) (fun _ => rfl) 32 rfl (dev18_eq c) (off := k0_off30 c) (off30_eq c) rfl rfl rfl) $$ [Ht' Hs HO]
  · iframe HR Ht' Hs HO
  iintro ⟨Hf', HO⟩
  rw [wp_ret]; imodintro
  iapply Hk
  iframe Hf Ha Hh Hz Hf' Ha' Hh' HO

/-- The first band's rows of the second gathering, sent on; the second band's landed. -/
theorem part20_spec {Q : PUnit → sProp 𝕄} (v2 v27 v542 v582 z : BitVec 32) :
    iprop(records D K ∗ await (4, 0) c ∗ held D c 0 1 ∗ todo (5, 0) c ∗ await (4, 1) c ∗ OW c 15)
      ⊢ iprop((∀ r, (semVal (recvCell (4, 0) c) 0 ∗ inFlight (5, 0) c ∗ aside D c 0 2 ∗ held D c 0 2 ∗ recvPay D (4, 1) c ∗ semVal (recvCell (4, 1) c) 0 ∗ OW c 16) -∗ Q r)
        -∗ wp frame (wpE (defs₀ (F := F)) 𝒱₀ (c : Thread nD τ) none) Set.univ (call (k0_part20 (F := F)) c v2 v27 v542 v582 z) Q) := by
  unfold call
  rw [k0_part20_eq_skeleton]
  unfold k0_part20_skel
  simp only [Prog.lift, Prog.bind_op, Prog.bind_ret, Prog.pure_eq_ret]
  iintro ⟨#HR, Haw, Hh, Ht, Haw', HO⟩ Hk
  iapply (recv_wait D K c (4, 0) 15 (by decide) rfl rfl) $$ [Haw HO]
  · iframe HR Haw HO
  iintro ⟨Hr, Hz, HO⟩
  ihave H := (res_c D c 0).1 $$ [Hr Hh]
  · iframe Hr Hh
  icases H with ⟨Hs, Ha, Hh⟩
  iapply (send_rows D K c (5, 0) 0 0 sh2 rfl rfl rfl (fun _ => rfl) (fun _ => rfl) 192 rfl (dev19_eq c) (off := k0_off32 c) (off32_eq c) rfl rfl rfl) $$ [Ht Hs HO]
  · iframe HR Ht Hs HO
  iintro ⟨Hf, HO⟩
  iapply (recv_wait D K c (4, 1) 16 (by decide) rfl rfl) $$ [Haw' HO]
  · iframe HR Haw' HO
  iintro ⟨Hr, Hz', HO⟩
  rw [wp_ret]; imodintro
  iapply Hk
  iframe Hz Hf Ha Hh Hr Hz' HO

/-- The second and third bands' rows of the second gathering, sent on; the first band's last landed. -/
theorem part21_spec {Q : BitVec 32 → sProp 𝕄} (v2 v23 v25 v561 v580 : BitVec 32) :
    iprop(records D K ∗ recvPay D (4, 1) c ∗ held D c 1 1 ∗ todo (5, 1) c ∗ await (4, 2) c ∗ held D c 2 1 ∗ todo (5, 2) c ∗ await (5, 0) c ∗ held D c 0 2 ∗ OW c 16)
      ⊢ iprop((∀ r, (inFlight (5, 1) c ∗ aside D c 1 2 ∗ held D c 1 2 ∗ semVal (recvCell (4, 2) c) 0 ∗ inFlight (5, 2) c ∗ aside D c 2 2 ∗ held D c 2 2
          ∗ semVal (recvCell (5, 0) c) 0 ∗ aside D c 0 3 ∗ held D c 0 3 ∗ OW c 18) -∗ Q r)
        -∗ wp frame (wpE (defs₀ (F := F)) 𝒱₀ (c : Thread nD τ) none) Set.univ (call (k0_part21 (F := F)) c v2 v23 v25 v561 v580) Q) := by
  unfold call
  rw [k0_part21_eq_skeleton]
  unfold k0_part21_skel
  simp only [Prog.lift, Prog.bind_op, Prog.bind_ret, Prog.pure_eq_ret]
  iintro ⟨#HR, Hr, Hh, Ht, Haw, Hh', Ht', Haw', Hk0, HO⟩ Hk
  ihave H := (res_c D c 1).1 $$ [Hr Hh]
  · iframe Hr Hh
  icases H with ⟨Hs, Ha, Hh⟩
  iapply (send_rows D K c (5, 1) 1 0 sh2 rfl rfl rfl (fun _ => rfl) (fun _ => rfl) 128 rfl (dev20_eq c) (off := k0_off34 c) (off34_eq c) rfl rfl rfl) $$ [Ht Hs HO]
  · iframe HR Ht Hs HO
  iintro ⟨Hf, HO⟩
  iapply (recv_wait D K c (4, 2) 17 (by decide) rfl rfl) $$ [Haw HO]
  · iframe HR Haw HO
  iintro ⟨Hr, Hz, HO⟩
  ihave H := (res_c D c 2).1 $$ [Hr Hh']
  · iframe Hr Hh'
  icases H with ⟨Hs, Ha', Hh'⟩
  iapply (send_rows D K c (5, 2) 2 0 sh2 rfl rfl rfl (fun _ => rfl) (fun _ => rfl) 64 rfl (dev21_eq c) (off := k0_off36 c) (off36_eq c) rfl rfl rfl) $$ [Ht' Hs HO]
  · iframe HR Ht' Hs HO
  iintro ⟨Hf', HO⟩
  iapply (recv_wait D K c (5, 0) 18 (by decide) rfl rfl) $$ [Haw' HO]
  · iframe HR Haw' HO
  iintro ⟨Hr, Hz', HO⟩
  ihave H := (res_d D c 0).1 $$ [Hr Hk0]
  · iframe Hr Hk0
  icases H with ⟨Ha0, Hk0⟩
  rw [wp_ret]; imodintro
  iapply Hk
  iframe Hf Ha Hh Hz Hf' Ha' Hh' Hz' Ha0 Hk0 HO

/-- The last rows landed; the result, widened. -/
theorem part22_spec {Q : PUnit → sProp 𝕄} (v2 z : BitVec 32) (f : Vec F S768x768 .f32) :
    iprop(records D K ∗ await (5, 1) c ∗ held D c 1 2 ∗ await (5, 2) c ∗ held D c 2 2 ∗ held D c 0 3 ∗ (((c : Thread nD τ).loc cc0_stg3_0) ↦[Finset.univ]{fullShare} f)
        ∗ inFlight (0, 0) c ∗ OW c 18)
      ⊢ iprop((∀ r, (semVal (recvCell (5, 1) c) 0 ∗ semVal (recvCell (5, 2) c) 0 ∗ aside D c 1 3 ∗ aside D c 2 3 ∗ held D c 0 3 ∗ held D c 1 3 ∗ held D c 2 3
          ∗ (((c : Thread nD τ).loc cc0_stg3_0) ↦[Finset.univ]{fullShare} OUT D) ∗ sendPay D (0, 0) c ∗ semVal (sendCell (0, 0) c) 0 ∗ OW c 18) -∗ Q r)
        -∗ wp frame (wpE (defs₀ (F := F)) 𝒱₀ (c : Thread nD τ) none) Set.univ (call (k0_part22 (F := F)) c v2 z) Q) := by
  unfold call
  rw [k0_part22_eq_skeleton]
  unfold k0_part22_skel
  simp only [Prog.lift, Prog.bind_op, Prog.bind_ret, Prog.pure_eq_ret]
  iintro ⟨#HR, Haw, Hh1, Haw', Hh2, Hh0, Hout, Hfl, HO⟩ Hk
  iapply (recv_wait D K c (5, 1) 18 (by decide) rfl rfl) $$ [Haw HO]
  · iframe HR Haw HO
  iintro ⟨Hr, Hz, HO⟩
  ihave H := (res_d D c 1).1 $$ [Hr Hh1]
  · iframe Hr Hh1
  icases H with ⟨Ha1, Hh1⟩
  iapply (recv_wait D K c (5, 2) 18 (by decide) rfl rfl) $$ [Haw' HO]
  · iframe HR Haw' HO
  iintro ⟨Hr, Hz', HO⟩
  ihave H := (res_d D c 2).1 $$ [Hr Hh2]
  · iframe Hr Hh2
  icases H with ⟨Ha2, Hh2⟩
  ihave H := (held_all D c).1 $$ [Hh0 Hh1 Hh2]
  · iframe Hh0 Hh1 Hh2
  ihave H := (rows_out D c _ _) $$ H
  iapply (ldW c 5 zero2) $$ H; iintro H
  ihave H := (rows_in D c _ _) $$ H
  ihave H := (held_all D c).2 $$ H
  icases H with ⟨Hh0, Hh1, Hh2⟩
  iapply (ldW c 3 zero2) $$ Hout; iintro Hout
  iapply (stA c 3 (all_univ _ _ zero2) (OUT D) (fun x => congrArg (OUT D) (emb_all ![0, 0] inb_S768x768_S768x768_0_0 zero2 x).symm)) $$ Hout; iintro Hout
  iapply (send_wait D K c (0, 0) rfl rfl) $$ [Hfl HO]
  · iframe HR Hfl HO
  iintro ⟨Hs, Hz0, HO⟩
  rw [wp_ret]; imodintro
  iapply Hk
  iframe Hz Hz' Ha1 Ha2 Hh0 Hh1 Hh2 Hout Hs Hz0 HO

/-- The waits for the first copies sent. -/
theorem part23_spec {Q : PUnit → sProp 𝕄} :
    iprop(records D K ∗ inFlight (0, 1) c ∗ inFlight (0, 2) c ∗ inFlight (1, 0) c ∗ inFlight (1, 1) c ∗ OW c 18)
      ⊢ iprop((∀ r, ((sendPay D (0, 1) c ∗ semVal (sendCell (0, 1) c) 0) ∗ (sendPay D (0, 2) c ∗ semVal (sendCell (0, 2) c) 0)
          ∗ (sendPay D (1, 0) c ∗ semVal (sendCell (1, 0) c) 0) ∗ (sendPay D (1, 1) c ∗ semVal (sendCell (1, 1) c) 0) ∗ OW c 18) -∗ Q r)
        -∗ wp frame (wpE (defs₀ (F := F)) 𝒱₀ (c : Thread nD τ) none) Set.univ (call (k0_part23 (F := F))) Q) := by
  unfold call
  rw [k0_part23_eq_skeleton]
  unfold k0_part23_skel
  simp only [Prog.lift, Prog.bind_op, Prog.bind_ret, Prog.pure_eq_ret]
  iintro ⟨#HR, H1, H2, H3, H4, HO⟩ Hk
  iapply (send_wait D K c (0, 1) rfl rfl) $$ [H1 HO]
  · iframe HR H1 HO
  iintro ⟨H1, Z1, HO⟩
  iapply (send_wait D K c (0, 2) rfl rfl) $$ [H2 HO]
  · iframe HR H2 HO
  iintro ⟨H2, Z2, HO⟩
  iapply (send_wait D K c (1, 0) rfl rfl) $$ [H3 HO]
  · iframe HR H3 HO
  iintro ⟨H3, Z3, HO⟩
  iapply (send_wait D K c (1, 1) rfl rfl) $$ [H4 HO]
  · iframe HR H4 HO
  iintro ⟨H4, Z4, HO⟩
  rw [wp_ret]; imodintro
  iapply Hk
  iframe H1 Z1 H2 Z2 H3 Z3 H4 Z4 HO

/-- The waits for the next. -/
theorem part24_spec {Q : PUnit → sProp 𝕄} :
    iprop(records D K ∗ inFlight (1, 2) c ∗ inFlight (2, 0) c ∗ inFlight (2, 1) c ∗ OW c 18)
      ⊢ iprop((∀ r, ((sendPay D (1, 2) c ∗ semVal (sendCell (1, 2) c) 0) ∗ (sendPay D (2, 0) c ∗ semVal (sendCell (2, 0) c) 0)
          ∗ (sendPay D (2, 1) c ∗ semVal (sendCell (2, 1) c) 0) ∗ OW c 18) -∗ Q r)
        -∗ wp frame (wpE (defs₀ (F := F)) 𝒱₀ (c : Thread nD τ) none) Set.univ (call (k0_part24 (F := F))) Q) := by
  unfold call
  rw [k0_part24_eq_skeleton]
  unfold k0_part24_skel
  simp only [Prog.lift, Prog.bind_op, Prog.bind_ret, Prog.pure_eq_ret]
  iintro ⟨#HR, H1, H2, H3, HO⟩ Hk
  iapply (send_wait D K c (1, 2) rfl rfl) $$ [H1 HO]
  · iframe HR H1 HO
  iintro ⟨H1, Z1, HO⟩
  iapply (send_wait D K c (2, 0) rfl rfl) $$ [H2 HO]
  · iframe HR H2 HO
  iintro ⟨H2, Z2, HO⟩
  iapply (send_wait D K c (2, 1) rfl rfl) $$ [H3 HO]
  · iframe HR H3 HO
  iintro ⟨H3, Z3, HO⟩
  rw [wp_ret]; imodintro
  iapply Hk
  iframe H1 Z1 H2 Z2 H3 Z3 HO

/-- The waits for the last exchange's and the gathering's first. -/
theorem part25_spec {Q : PUnit → sProp 𝕄} :
    iprop(records D K ∗ inFlight (2, 2) c ∗ inFlight (3, 0) c ∗ inFlight (3, 1) c ∗ inFlight (3, 2) c ∗ inFlight (4, 0) c ∗ inFlight (4, 1) c ∗ OW c 18)
      ⊢ iprop((∀ r, ((sendPay D (2, 2) c ∗ semVal (sendCell (2, 2) c) 0) ∗ (sendPay D (3, 0) c ∗ semVal (sendCell (3, 0) c) 0)
          ∗ (sendPay D (3, 1) c ∗ semVal (sendCell (3, 1) c) 0) ∗ (sendPay D (3, 2) c ∗ semVal (sendCell (3, 2) c) 0)
          ∗ (sendPay D (4, 0) c ∗ semVal (sendCell (4, 0) c) 0) ∗ (sendPay D (4, 1) c ∗ semVal (sendCell (4, 1) c) 0) ∗ OW c 18) -∗ Q r)
        -∗ wp frame (wpE (defs₀ (F := F)) 𝒱₀ (c : Thread nD τ) none) Set.univ (call (k0_part25 (F := F)) c) Q) := by
  unfold call
  rw [k0_part25_eq_skeleton]
  unfold k0_part25_skel
  simp only [Prog.lift, Prog.bind_op, Prog.bind_ret, Prog.pure_eq_ret]
  iintro ⟨#HR, H1, H2, H3, H4, H5, H6, HO⟩ Hk
  iapply (send_wait D K c (2, 2) rfl rfl) $$ [H1 HO]
  · iframe HR H1 HO
  iintro ⟨H1, Z1, HO⟩
  iapply (send_wait D K c (3, 0) rfl rfl) $$ [H2 HO]
  · iframe HR H2 HO
  iintro ⟨H2, Z2, HO⟩
  iapply (send_wait D K c (3, 1) rfl rfl) $$ [H3 HO]
  · iframe HR H3 HO
  iintro ⟨H3, Z3, HO⟩
  iapply (send_wait D K c (3, 2) rfl rfl) $$ [H4 HO]
  · iframe HR H4 HO
  iintro ⟨H4, Z4, HO⟩
  iapply (send_wait D K c (4, 0) rfl rfl) $$ [H5 HO]
  · iframe HR H5 HO
  iintro ⟨H5, Z5, HO⟩
  iapply (send_wait D K c (4, 1) rfl rfl) $$ [H6 HO]
  · iframe HR H6 HO
  iintro ⟨H6, Z6, HO⟩
  rw [wp_ret]; imodintro
  iapply Hk
  iframe H1 Z1 H2 Z2 H3 Z3 H4 Z4 H5 Z5 H6 Z6 HO

end Parts

end Cert.Mlp

end
-- ==== Proof.Carve.lean ====
/-
  A device's buffers in the pieces the body works with, and the pieces put back together.
-/
module

public import proofs.«01_k».proof.Proof.Shares

@[expose] public section

set_option maxRecDepth 8000

noncomputable section

namespace Cert.Mlp

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Carve

/-- A buffer's elements with whatever they hold. -/
abbrev anyOf (ℓ : Loc nD τ sig) (S : Finset (Idx ℓ)) : sProp 𝕄 := iprop(∃ f : Buf (Elt F) ℓ, ℓ ↦[S]{fullShare} f)

/-- A part of them, and the others. -/
theorem carve (ℓ : Loc nD τ sig) {I S : Finset (Idx ℓ)} (h : I ⊆ S) : (anyOf (F := F) ℓ S : sProp 𝕄) ⊣⊢ iprop(anyOf (F := F) ℓ I ∗ anyOf (F := F) ℓ (S \ I)) := by
  constructor
  · iintro ⟨%f, H⟩
    ihave H := (pointsTo_split_subset h).1 $$ H
    icases H with ⟨H1, H2⟩
    isplitl [H1]; · iexists f; iexact H1
    iexists f; iexact H2
  · iintro ⟨⟨%f, H1⟩, ⟨%g, H2⟩⟩
    ihave H := (pointsTo_join_subset h) $$ [H1 H2]
    · iframe H1 H2
    iexists _; iexact H

theorem anyOf_congr (ℓ : Loc nD τ sig) {I J : Finset (Idx ℓ)} (h : I = J) : (anyOf (F := F) ℓ I : sProp 𝕄) = anyOf (F := F) ℓ J := by rw [h]

/-- The elements in none of three parts. -/
abbrev rest3 {ℓ : Loc nD τ sig} (A : Fin 3 → Finset (Idx ℓ)) : Finset (Idx ℓ) := ((Finset.univ \ A 0) \ A 1) \ A 2

/-- A buffer in three disjoint parts, and what is left of it. -/
theorem slots (ℓ : Loc nD τ sig) (A : Fin 3 → Finset (Idx ℓ)) (h01 : Disjoint (A 0) (A 1)) (h02 : Disjoint (A 0) (A 2)) (h12 : Disjoint (A 1) (A 2)) :
    (anyOf (F := F) ℓ Finset.univ : sProp 𝕄) ⊣⊢ iprop(anyOf (F := F) ℓ (A 0) ∗ anyOf (F := F) ℓ (A 1) ∗ anyOf (F := F) ℓ (A 2) ∗ anyOf (F := F) ℓ (rest3 A)) := by
  have s1 : A 1 ⊆ Finset.univ \ A 0 := fun i hi => Finset.mem_sdiff.mpr ⟨Finset.mem_univ i, Finset.disjoint_right.mp h01 hi⟩
  have s2 : A 2 ⊆ (Finset.univ \ A 0) \ A 1 := fun i hi =>
    Finset.mem_sdiff.mpr ⟨Finset.mem_sdiff.mpr ⟨Finset.mem_univ i, Finset.disjoint_right.mp h02 hi⟩, Finset.disjoint_right.mp h12 hi⟩
  constructor
  · iintro H
    ihave H := (carve ℓ (Finset.subset_univ (A 0))).1 $$ H
    icases H with ⟨H0, H⟩
    ihave H := (carve ℓ s1).1 $$ H
    icases H with ⟨H1, H⟩
    ihave H := (carve ℓ s2).1 $$ H
    icases H with ⟨H2, H⟩
    iframe H0 H1 H2 H
  · iintro ⟨H0, H1, H2, H⟩
    ihave H := (carve ℓ s2).2 $$ [H2 H]
    · iframe H2 H
    ihave H := (carve ℓ s1).2 $$ [H1 H]
    · iframe H1 H
    iapply (carve ℓ (Finset.subset_univ (A 0))).2
    iframe H0 H

variable (c : Dev nD)

abbrev A0 : Fin 3 → Finset (Idx ((c : Thread nD τ).loc cc0_scratch0)) := fun b => bandPart b
abbrev A1 : Fin 3 → Finset (Idx ((c : Thread nD τ).loc cc0_scratch1)) := fun b => keptSet b 0 c
abbrev A2 : Fin 3 → Finset (Idx ((c : Thread nD τ).loc cc0_scratch2)) := fun b => (slotSet b.val (lvl b 1) : Finset S3x192x768.Idx)
abbrev A3 : Fin 3 → Finset (Idx ((c : Thread nD τ).loc cc0_scratch3)) := fun b => (slotSet b.val (lvl b 2) : Finset S3x96x768.Idx)
abbrev A4 : Fin 3 → Finset (Idx ((c : Thread nD τ).loc cc0_scratch4)) := fun b => (slotSet b.val (lvl b 3) : Finset S3x48x768.Idx)
abbrev A5 : Fin 3 → Finset (Idx ((c : Thread nD τ).loc cc0_scratch5)) := fun b => (slotSet b.val (lvl b 1) : Finset S3x192x768.Idx)
abbrev A6 : Fin 3 → Finset (Idx ((c : Thread nD τ).loc cc0_scratch6)) := fun b => (slotSet b.val (lvl b 2) : Finset S3x96x768.Idx)
abbrev A7 : Fin 3 → Finset (Idx ((c : Thread nD τ).loc cc0_scratch7)) := fun b => (slotSet b.val (lvl b 3) : Finset S3x48x768.Idx)

/-- The buffer of partial sums: a room for each band. -/
theorem cut0 : (anyOf (F := F) ((c : Thread nD τ).loc cc0_scratch0) Finset.univ : sProp 𝕄)
    ⊣⊢ iprop(partAny (F := F) 0 c ∗ partAny (F := F) 1 c ∗ partAny (F := F) 2 c ∗ anyOf (F := F) ((c : Thread nD τ).loc cc0_scratch0) (rest3 (A0 c))) :=
  slots _ (A0 c) (rowSet_disjoint (.inl (Nat.le_refl _))) (rowSet_disjoint (.inl (by decide))) (rowSet_disjoint (.inl (Nat.le_refl _)))
/-- The result buffer: the bands, -/
theorem cut1 : (anyOf (F := F) ((c : Thread nD τ).loc cc0_scratch1) Finset.univ : sProp 𝕄)
    ⊣⊢ iprop(anyOf (F := F) ((c : Thread nD τ).loc cc0_scratch1) (keptSet 0 0 c) ∗ anyOf (F := F) ((c : Thread nD τ).loc cc0_scratch1) (keptSet 1 0 c)
      ∗ anyOf (F := F) ((c : Thread nD τ).loc cc0_scratch1) (keptSet 2 0 c) ∗ anyOf (F := F) ((c : Thread nD τ).loc cc0_scratch1) (rest3 (A1 c))) :=
  slots _ (A1 c) (rowSet_disjoint (.inl (Nat.le_refl _))) (rowSet_disjoint (.inl (Nat.le_of_lt (show 0 + 384 < 640 by decide)))) (rowSet_disjoint (.inl (Nat.le_refl _)))
/-- and the landing slots, -/
theorem cut2 : (anyOf (F := F) ((c : Thread nD τ).loc cc0_scratch2) Finset.univ : sProp 𝕄)
    ⊣⊢ iprop(landAny (F := F) (0, 0) c ∗ landAny (F := F) (0, 1) c ∗ landAny (F := F) (0, 2) c ∗ anyOf (F := F) ((c : Thread nD τ).loc cc0_scratch2) (rest3 (A2 c))) :=
  slots _ (A2 c) (slotSet_disjoint (by decide)) (slotSet_disjoint (by decide)) (slotSet_disjoint (by decide))
theorem cut3 : (anyOf (F := F) ((c : Thread nD τ).loc cc0_scratch3) Finset.univ : sProp 𝕄)
    ⊣⊢ iprop(landAny (F := F) (1, 0) c ∗ landAny (F := F) (1, 1) c ∗ landAny (F := F) (1, 2) c ∗ anyOf (F := F) ((c : Thread nD τ).loc cc0_scratch3) (rest3 (A3 c))) :=
  slots _ (A3 c) (slotSet_disjoint (by decide)) (slotSet_disjoint (by decide)) (slotSet_disjoint (by decide))
theorem cut4 : (anyOf (F := F) ((c : Thread nD τ).loc cc0_scratch4) Finset.univ : sProp 𝕄)
    ⊣⊢ iprop(landAny (F := F) (2, 0) c ∗ landAny (F := F) (2, 1) c ∗ landAny (F := F) (2, 2) c ∗ anyOf (F := F) ((c : Thread nD τ).loc cc0_scratch4) (rest3 (A4 c))) :=
  slots _ (A4 c) (slotSet_disjoint (by decide)) (slotSet_disjoint (by decide)) (slotSet_disjoint (by decide))
/-- and the slots to send from. -/
theorem cut5 : (anyOf (F := F) ((c : Thread nD τ).loc cc0_scratch5) Finset.univ : sProp 𝕄)
    ⊣⊢ iprop(slotAny (F := F) 0 0 c ∗ slotAny (F := F) 0 1 c ∗ slotAny (F := F) 0 2 c ∗ anyOf (F := F) ((c : Thread nD τ).loc cc0_scratch5) (rest3 (A5 c))) :=
  slots _ (A5 c) (slotSet_disjoint (by decide)) (slotSet_disjoint (by decide)) (slotSet_disjoint (by decide))
theorem cut6 : (anyOf (F := F) ((c : Thread nD τ).loc cc0_scratch6) Finset.univ : sProp 𝕄)
    ⊣⊢ iprop(slotAny (F := F) 1 0 c ∗ slotAny (F := F) 1 1 c ∗ slotAny (F := F) 1 2 c ∗ anyOf (F := F) ((c : Thread nD τ).loc cc0_scratch6) (rest3 (A6 c))) :=
  slots _ (A6 c) (slotSet_disjoint (by decide)) (slotSet_disjoint (by decide)) (slotSet_disjoint (by decide))
theorem cut7 : (anyOf (F := F) ((c : Thread nD τ).loc cc0_scratch7) Finset.univ : sProp 𝕄)
    ⊣⊢ iprop(slotAny (F := F) 2 0 c ∗ slotAny (F := F) 2 1 c ∗ slotAny (F := F) 2 2 c ∗ anyOf (F := F) ((c : Thread nD τ).loc cc0_scratch7) (rest3 (A7 c))) :=
  slots _ (A7 c) (slotSet_disjoint (by decide)) (slotSet_disjoint (by decide)) (slotSet_disjoint (by decide))

/-- A held region of the result is its two halves. -/
theorem any_kept (b l : Fin 3) {m m' : ℕ} (hm : m = l.val) (hm' : m' = l.val + 1) :
    (anyOf (F := F) ((c : Thread nD τ).loc cc0_scratch1) (keptSet b m c) : sProp 𝕄)
      ⊢ iprop(anyOf (F := F) ((c : Thread nD τ).loc cc0_scratch1) (keptSet b m' c) ∗ anyOf (F := F) ((c : Thread nD τ).loc cc0_scratch1) (sibSet b m' c)) := by
  subst hm hm'
  iintro ⟨%f, H⟩
  rw [← kept_union b c l]
  ihave H := (pointsTo_union (kept_disjoint b c l)).1 $$ H
  icases H with ⟨H1, H2⟩
  isplitl [H1]; · iexists f; iexact H1
  iexists f; iexact H2

/-- A band of the result: the rows a device computes, and those the gathering lands. -/
theorem cut_band (b : Fin 3) : (anyOf (F := F) ((c : Thread nD τ).loc cc0_scratch1) (keptSet b 0 c) : sProp 𝕄)
    ⊢ iprop(resAny (F := F) b c ∗ landAny (F := F) (3, b) c ∗ landAny (F := F) (4, b) c ∗ landAny (F := F) (5, b) c) := by
  show _ ⊢ iprop(anyOf (F := F) ((c : Thread nD τ).loc cc0_scratch1) (keptSet b 3 c) ∗ anyOf (F := F) ((c : Thread nD τ).loc cc0_scratch1) (sibSet b 3 c)
    ∗ anyOf (F := F) ((c : Thread nD τ).loc cc0_scratch1) (sibSet b 2 c) ∗ anyOf (F := F) ((c : Thread nD τ).loc cc0_scratch1) (sibSet b 1 c))
  iintro H
  ihave H := (any_kept c b 0 (m := 0) (m' := 1) rfl rfl) $$ H
  icases H with ⟨H, H5⟩
  ihave H := (any_kept c b 1 (m := 1) (m' := 2) rfl rfl) $$ H
  icases H with ⟨H, H4⟩
  ihave H := (any_kept c b 2 (m := 2) (m' := 3) rfl rfl) $$ H
  icases H with ⟨H, H3⟩
  iframe H H3 H4 H5

/-- A family over the copies, copy by copy. -/
theorem bigSep_Cp (Φ : Cp → sProp 𝕄) : bigSep Finset.univ Φ
    = iprop((Φ (0, 0) ∗ Φ (0, 1) ∗ Φ (0, 2)) ∗ (Φ (1, 0) ∗ Φ (1, 1) ∗ Φ (1, 2)) ∗ (Φ (2, 0) ∗ Φ (2, 1) ∗ Φ (2, 2))
      ∗ (Φ (3, 0) ∗ Φ (3, 1) ∗ Φ (3, 2)) ∗ (Φ (4, 0) ∗ Φ (4, 1) ∗ Φ (4, 2)) ∗ (Φ (5, 0) ∗ Φ (5, 1) ∗ Φ (5, 2))) := by
  have h (i : Fin 6) : (bigSep Finset.univ fun b : Fin 3 => Φ (i, b)) = iprop(Φ (i, 0) ∗ Φ (i, 1) ∗ Φ (i, 2)) :=
    bigSep_univ_eq_bigSepL [(0 : Fin 3), 1, 2] (by decide) (by decide) _
  rw [bigSep_univ_prod, bigSep_univ_eq_bigSepL [(0 : Fin 6), 1, 2, 3, 4, 5] (by decide) (by decide)]
  rw [← h 0, ← h 1, ← h 2, ← h 3, ← h 4, ← h 5]
  rfl

/-- What the barrier's signals hand over: all the rows the others' copies land in. -/
theorem land_bars : (bigSep Finset.univ fun p : Cp => landAny (F := F) p c : sProp 𝕄)
    ⊢ iprop(barPay (F := F) 0 (flip 0 c) ∗ barPay (F := F) 1 (flip 1 c) ∗ barPay (F := F) 2 (flip 2 c)) := by
  unfold barPay
  simp only [flip_flip]
  rw [← bigSep_sep', ← bigSep_sep']
  refine bigSep_mono fun p _ => ?_
  have h : ∀ a : Fin 3, a = 0 ∨ a = 1 ∨ a = 2 := by decide
  rcases h (ax p) with e | e | e
  · rw [e, if_pos rfl, if_neg (by decide), if_neg (by decide)]
    show (landAny (F := F) p c : sProp 𝕄) ⊢ iprop(landAny (F := F) p c ∗ emp ∗ emp)
    iintro H; isplitl [H]; · iexact H
    isplitr <;> iempintro
  · rw [e, if_pos rfl, if_neg (by decide), if_neg (by decide)]
    show (landAny (F := F) p c : sProp 𝕄) ⊢ iprop(emp ∗ landAny (F := F) p c ∗ emp)
    iintro H; isplitr; · iempintro
    isplitl [H]; · iexact H
    iempintro
  · rw [e, if_pos rfl, if_neg (by decide), if_neg (by decide)]
    show (landAny (F := F) p c : sProp 𝕄) ⊢ iprop(emp ∗ emp ∗ landAny (F := F) p c)
    iintro H; isplitr; · iempintro
    isplitr; · iempintro
    iexact H

end Carve

end Cert.Mlp

end
-- ==== Proof.Pieces.lean ====
/-
  What a device has before the body and after it, as the pieces the body works with.
-/
module

public import proofs.«01_k».proof.Proof.Carve

@[expose] public section

set_option maxRecDepth 8000

noncomputable section

namespace Cert.Mlp

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body
variable (D : Inp F) (K : Dev nD × Key → ℕ) (c : Dev nD)

/-- The buffers the body keeps to itself, with whatever they hold. -/
def scratch (c : Dev nD) : sProp 𝕄 :=
  iprop(anyOf (F := F) ((c : Thread nD τ).loc cc0_scratch0) Finset.univ ∗ anyOf (F := F) ((c : Thread nD τ).loc cc0_scratch1) Finset.univ
    ∗ anyOf (F := F) ((c : Thread nD τ).loc cc0_scratch2) Finset.univ ∗ anyOf (F := F) ((c : Thread nD τ).loc cc0_scratch3) Finset.univ
    ∗ anyOf (F := F) ((c : Thread nD τ).loc cc0_scratch4) Finset.univ ∗ anyOf (F := F) ((c : Thread nD τ).loc cc0_scratch5) Finset.univ
    ∗ anyOf (F := F) ((c : Thread nD τ).loc cc0_scratch6) Finset.univ ∗ anyOf (F := F) ((c : Thread nD τ).loc cc0_scratch7) Finset.univ
    ∗ anyOf (F := F) ((c : Thread nD τ).loc cc0_scratch8) Finset.univ ∗ anyOf (F := F) ((c : Thread nD τ).loc cc0_scratch9) Finset.univ
    ∗ anyOf (F := F) ((c : Thread nD τ).loc cc0_scratch10) Finset.univ)

/-- What is left of the buffers beside the pieces. -/
def spare (c : Dev nD) : sProp 𝕄 :=
  iprop(anyOf (F := F) ((c : Thread nD τ).loc cc0_scratch0) (rest3 (A0 c)) ∗ anyOf (F := F) ((c : Thread nD τ).loc cc0_scratch1) (rest3 (A1 c))
    ∗ anyOf (F := F) ((c : Thread nD τ).loc cc0_scratch2) (rest3 (A2 c)) ∗ anyOf (F := F) ((c : Thread nD τ).loc cc0_scratch3) (rest3 (A3 c))
    ∗ anyOf (F := F) ((c : Thread nD τ).loc cc0_scratch4) (rest3 (A4 c)) ∗ anyOf (F := F) ((c : Thread nD τ).loc cc0_scratch5) (rest3 (A5 c))
    ∗ anyOf (F := F) ((c : Thread nD τ).loc cc0_scratch6) (rest3 (A6 c)) ∗ anyOf (F := F) ((c : Thread nD τ).loc cc0_scratch7) (rest3 (A7 c)))

/-- A device's part in the barrier, before it: its tokens at the three partners', and its own count. -/
def barStart (c : Dev nD) : sProp 𝕄 :=
  iprop((dutyTok ER (barCell (flip 0 c)) 0 0 ∗ dutyTok ER (barCell (flip 1 c)) 0 1 ∗ dutyTok ER (barCell (flip 2 c)) 0 2)
    ∗ cred (tallyAt (barCell c) () 3) ∗ atPos ER (barCell c) 0 ∅ 0)
/-- Its tokens for a copy it sends. -/
def copyToks (p : Cp) (c : Dev nD) : sProp 𝕄 :=
  iprop(dutyTok ER (sendCell p c) 0 0 ∗ dutyTok ER (recvCell p (peer p c)) 0 0 ∗ atPos ER (sendCell p c) 0 ∅ 0)
/-- Its semaphores, drained. -/
def drained (c : Dev nD) : sProp 𝕄 :=
  iprop(semVal (barCell c) 0 ∗ (bigSep Finset.univ fun p : Cp => semVal (sendCell p c) 0) ∗ (bigSep Finset.univ fun p : Cp => semVal (recvCell p c) 0))

theorem todo_all : iprop((bigSep Finset.univ fun p : Cp => landAny (F := F) p (peer p c)) ∗ (bigSep Finset.univ fun p : Cp => copyToks (F := F) p c))
    ⊢ (bigSep Finset.univ fun p : Cp => todo (F := F) p c : sProp 𝕄) := Entails.of_eq (bigSep_sep' _ _ _).symm

/-- All the pieces the body works with, cut from its buffers. -/
theorem scratch_cut : (scratch (F := F) c : sProp 𝕄) ⊢ iprop(
      (bigSep Finset.univ fun p : Cp => landAny (F := F) p c)
      ∗ (partAny (F := F) 0 c ∗ partAny (F := F) 1 c ∗ partAny (F := F) 2 c)
      ∗ (resAny (F := F) 0 c ∗ resAny (F := F) 1 c ∗ resAny (F := F) 2 c)
      ∗ ((slotAny (F := F) 0 0 c ∗ slotAny (F := F) 0 1 c ∗ slotAny (F := F) 0 2 c) ∗ (slotAny (F := F) 1 0 c ∗ slotAny (F := F) 1 1 c ∗ slotAny (F := F) 1 2 c)
        ∗ (slotAny (F := F) 2 0 c ∗ slotAny (F := F) 2 1 c ∗ slotAny (F := F) 2 2 c))
      ∗ (anyOf (F := F) ((c : Thread nD τ).loc cc0_scratch8) Finset.univ ∗ anyOf (F := F) ((c : Thread nD τ).loc cc0_scratch9) Finset.univ
        ∗ anyOf (F := F) ((c : Thread nD τ).loc cc0_scratch10) Finset.univ)
      ∗ spare (F := F) c) := by
  unfold scratch spare
  iintro ⟨S0, S1, S2, S3, S4, S5, S6, S7, S8, S9, S10⟩
  ihave S0 := (cut0 c).1 $$ S0
  icases S0 with ⟨B0, B1, B2, E0⟩
  ihave S1 := (cut1 c).1 $$ S1
  icases S1 with ⟨V0, V1, V2, E1⟩
  ihave V0 := (cut_band c 0) $$ V0
  icases V0 with ⟨V0, L30, L40, L50⟩
  ihave V1 := (cut_band c 1) $$ V1
  icases V1 with ⟨V1, L31, L41, L51⟩
  ihave V2 := (cut_band c 2) $$ V2
  icases V2 with ⟨V2, L32, L42, L52⟩
  ihave S2 := (cut2 c).1 $$ S2
  icases S2 with ⟨L00, L01, L02, E2⟩
  ihave S3 := (cut3 c).1 $$ S3
  icases S3 with ⟨L10, L11, L12, E3⟩
  ihave S4 := (cut4 c).1 $$ S4
  icases S4 with ⟨L20, L21, L22, E4⟩
  ihave S5 := (cut5 c).1 $$ S5
  icases S5 with ⟨U00, U01, U02, E5⟩
  ihave S6 := (cut6 c).1 $$ S6
  icases S6 with ⟨U10, U11, U12, E6⟩
  ihave S7 := (cut7 c).1 $$ S7
  icases S7 with ⟨U20, U21, U22, E7⟩
  rw [bigSep_Cp]
  iframe L00 L01 L02 L10 L11 L12 L20 L21 L22 L30 L31 L32 L40 L41 L42 L50 L51 L52
  iframe B0 B1 B2 V0 V1 V2 U00 U01 U02 U10 U11 U12 U20 U21 U22 S8 S9 S10 E0 E1 E2 E3 E4 E5 E6 E7

theorem recv_any (p : Cp) : (recvPay D p c : sProp 𝕄) ⊢ landAny (F := F) p c := by
  unfold recvPay landAny
  split <;> (iintro H; iexists _; iexact H)
theorem sent_any0 (b : Fin 3) : (sendPay D (0, b) c : sProp 𝕄) ⊢ slotAny (F := F) 0 b c := by
  unfold sendPay slotAny; iintro H; iexists _; iexact H
theorem sent_any1 (b : Fin 3) : (sendPay D (1, b) c : sProp 𝕄) ⊢ slotAny (F := F) 1 b c := by
  unfold sendPay slotAny; iintro H; iexists _; iexact H
theorem sent_any2 (b : Fin 3) : (sendPay D (2, b) c : sProp 𝕄) ⊢ slotAny (F := F) 2 b c := by
  unfold sendPay slotAny; iintro H; iexists _; iexact H
theorem part_any (b : Fin 3) (l s : ℕ) : (partAt D b l s c : sProp 𝕄) ⊢ partAny (F := F) b c := by
  unfold partAt partAny; iintro ⟨%f, -, H⟩; iexists f; iexact H
theorem rows_any (b : Fin 3) : (rows D (keptSet b 0 c) fullShare c : sProp 𝕄) ⊢ anyOf (F := F) ((c : Thread nD τ).loc cc0_scratch1) (keptSet b 0 c) := by
  unfold rows; iintro H; iexists _; iexact H

/-- What is left of a band once its copies have been waited for. -/
def bandEnd (b : Fin 3) : sProp 𝕄 :=
  iprop((sendPay D (3, b) c ∗ sendPay D (4, b) c ∗ sendPay D (5, b) c) ∗ (aside D c b 1 ∗ aside D c b 2 ∗ aside D c b 3) ∗ held D c b 3)

/-- The buffers put back together. -/
theorem scratch_back : iprop(
      (partAt D 0 3 3 c ∗ partAt D 1 3 3 c ∗ partAt D 2 3 3 c)
      ∗ (bandEnd D c 0 ∗ bandEnd D c 1 ∗ bandEnd D c 2)
      ∗ ((recvPay D (0, 0) c ∗ recvPay D (0, 1) c ∗ recvPay D (0, 2) c) ∗ (recvPay D (1, 0) c ∗ recvPay D (1, 1) c ∗ recvPay D (1, 2) c)
        ∗ (recvPay D (2, 0) c ∗ recvPay D (2, 1) c ∗ recvPay D (2, 2) c))
      ∗ ((sendPay D (0, 0) c ∗ sendPay D (0, 1) c ∗ sendPay D (0, 2) c) ∗ (sendPay D (1, 0) c ∗ sendPay D (1, 1) c ∗ sendPay D (1, 2) c)
        ∗ (sendPay D (2, 0) c ∗ sendPay D (2, 1) c ∗ sendPay D (2, 2) c))
      ∗ weights D c ∗ spare (F := F) c) ⊢ (scratch (F := F) c : sProp 𝕄) := by
  unfold scratch spare weights bandEnd
  iintro ⟨⟨B0, B1, B2⟩, ⟨V0, V1, V2⟩, ⟨⟨L00, L01, L02⟩, ⟨L10, L11, L12⟩, ⟨L20, L21, L22⟩⟩, ⟨⟨U00, U01, U02⟩, ⟨U10, U11, U12⟩, ⟨U20, U21, U22⟩⟩, ⟨S8, S9, S10⟩, ⟨E0, E1, E2, E3, E4, E5, E6, E7⟩⟩
  isplitl [B0 B1 B2 E0]
  · iapply (cut0 c).2
    isplitl [B0]; · iapply (part_any D c 0 3 3); iexact B0
    isplitl [B1]; · iapply (part_any D c 1 3 3); iexact B1
    isplitl [B2]; · iapply (part_any D c 2 3 3); iexact B2
    iexact E0
  isplitl [V0 V1 V2 E1]
  · iapply (cut1 c).2
    isplitl [V0]; · iapply ((band_back D c 0).trans (rows_any D c 0)); iexact V0
    isplitl [V1]; · iapply ((band_back D c 1).trans (rows_any D c 1)); iexact V1
    isplitl [V2]; · iapply ((band_back D c 2).trans (rows_any D c 2)); iexact V2
    iexact E1
  isplitl [L00 L01 L02 E2]
  · iapply (cut2 c).2
    isplitl [L00]; · iapply (recv_any D c); iexact L00
    isplitl [L01]; · iapply (recv_any D c); iexact L01
    isplitl [L02]; · iapply (recv_any D c); iexact L02
    iexact E2
  isplitl [L10 L11 L12 E3]
  · iapply (cut3 c).2
    isplitl [L10]; · iapply (recv_any D c); iexact L10
    isplitl [L11]; · iapply (recv_any D c); iexact L11
    isplitl [L12]; · iapply (recv_any D c); iexact L12
    iexact E3
  isplitl [L20 L21 L22 E4]
  · iapply (cut4 c).2
    isplitl [L20]; · iapply (recv_any D c); iexact L20
    isplitl [L21]; · iapply (recv_any D c); iexact L21
    isplitl [L22]; · iapply (recv_any D c); iexact L22
    iexact E4
  isplitl [U00 U01 U02 E5]
  · iapply (cut5 c).2
    isplitl [U00]; · iapply (sent_any0 D c 0); iexact U00
    isplitl [U01]; · iapply (sent_any0 D c 1); iexact U01
    isplitl [U02]; · iapply (sent_any0 D c 2); iexact U02
    iexact E5
  isplitl [U10 U11 U12 E6]
  · iapply (cut6 c).2
    isplitl [U10]; · iapply (sent_any1 D c 0); iexact U10
    isplitl [U11]; · iapply (sent_any1 D c 1); iexact U11
    isplitl [U12]; · iapply (sent_any1 D c 2); iexact U12
    iexact E6
  isplitl [U20 U21 U22 E7]
  · iapply (cut7 c).2
    isplitl [U20]; · iapply (sent_any2 D c 0); iexact U20
    isplitl [U21]; · iapply (sent_any2 D c 1); iexact U21
    isplitl [U22]; · iapply (sent_any2 D c 2); iexact U22
    iexact E7
  isplitl [S8]; · iexists _; iexact S8
  isplitl [S9]; · iexists _; iexact S9
  iexists _; iexact S10

end Body

end Cert.Mlp

end
-- ==== Proof.Body.lean ====
/-
  The whole body on a device, from its parts.
-/
module

public import proofs.«01_k».proof.Proof.PartsA
public import proofs.«01_k».proof.Proof.PartsB
public import proofs.«01_k».proof.Proof.Pieces

@[expose] public section

set_option maxRecDepth 8000

noncomputable section

namespace Cert.Mlp

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body
variable (D : Inp F) (K : Dev nD × Key → ℕ) (c : Dev nD)

set_option maxHeartbeats 4000000 in
/-- The body on a device: from its inputs, its scratch buffers and its tokens, it leaves the result in its
    output's buffer, every semaphore drained, and nothing owed. -/
theorem body_spec {Q : PUnit → sProp 𝕄} (W : Waits sig Unit) (f3 : Vec F S768x768 .f32) :
    iprop(records D K ∗ (((c : Thread nD τ).loc cc0_stg0_0) ↦[Finset.univ]{fullShare} D.x c) ∗ (((c : Thread nD τ).loc cc0_stg1_0) ↦[Finset.univ]{fullShare} D.w1 c)
        ∗ (((c : Thread nD τ).loc cc0_stg2_0) ↦[Finset.univ]{fullShare} D.w2 c) ∗ (((c : Thread nD τ).loc cc0_stg3_0) ↦[Finset.univ]{fullShare} f3)
        ∗ scratch c ∗ owes (c : Thread nD τ) (owed₀ c) W ∗ barStart c
        ∗ (bigSep Finset.univ fun p : Cp => copyToks (F := F) p c) ∗ (bigSep Finset.univ fun p : Cp => await (F := F) p c))
      ⊢ iprop(((((c : Thread nD τ).loc cc0_stg0_0) ↦[Finset.univ]{fullShare} D.x c) ∗ (((c : Thread nD τ).loc cc0_stg1_0) ↦[Finset.univ]{fullShare} D.w1 c)
          ∗ (((c : Thread nD τ).loc cc0_stg2_0) ↦[Finset.univ]{fullShare} D.w2 c) ∗ (((c : Thread nD τ).loc cc0_stg3_0) ↦[Finset.univ]{fullShare} OUT D)
          ∗ scratch c ∗ OW c 18 ∗ drained c -∗ Q ⟨⟩)
        -∗ wp frame (wpE (defs₀ (F := F)) 𝒱₀ (c : Thread nD τ) none) Set.univ (call (cc0_body (F := F))) Q) := by
  unfold call barStart
  rw [cc0_body_eq_skeleton]
  unfold cc0_body_skel
  rw [bigSep_Cp (fun p => await (F := F) p c)]
  iintro ⟨#HR, H0, H1, H2, H3, HS, HO, ⟨⟨Tb0, Tb1, Tb2⟩, Hc, Hat⟩, Htok, HA⟩ Hk
  icases HA with ⟨⟨A00, A01, A02⟩, ⟨A10, A11, A12⟩, ⟨A20, A21, A22⟩, ⟨A30, A31, A32⟩, ⟨A40, A41, A42⟩, ⟨A50, A51, A52⟩⟩
  ihave HS := (scratch_cut c) $$ HS
  icases HS with ⟨HL, ⟨B0, B1, B2⟩, ⟨V0, V1, V2⟩, ⟨⟨U00, U01, U02⟩, ⟨U10, U11, U12⟩, ⟨U20, U21, U22⟩⟩, ⟨⟨%f8, W8⟩, ⟨%f9, W9⟩, ⟨%f10', W10⟩⟩, HE⟩
  ihave HL := (land_bars c) $$ HL
  icases HL with ⟨Q0, Q1, Q2⟩
  rw [wp_bind]
  iapply (part1_spec D c f8 f9 f10') $$ [H0 H1 H2 W8 W9 W10]
  · iframe H0 H1 H2 W8 W9 W10
  iintro %v2 %v23 %v25 %v27 ⟨H0, H1, H2, HW⟩
  dsimp only
  rw [wp_bind]
  iapply (part2_spec D K c _ _ _) $$ [HW U00 HO Tb0 Tb1 Tb2 Q0 Q1 Q2 Hc Hat]
  · iframe HR HW U00 HO Tb0 Tb1 Tb2 Q0 Q1 Q2 Hc Hat
  iintro %r2 ⟨HW, P00, HO, Zb, HL⟩
  obtain ⟨v55, z2⟩ := r2; dsimp only
  ihave HT := ((todo_all c).trans (Entails.of_eq (bigSep_Cp fun p => todo (F := F) p c))) $$ [HL Htok]
  · iframe HL Htok
  icases HT with ⟨⟨T00, T01, T02⟩, ⟨T10, T11, T12⟩, ⟨T20, T21, T22⟩, ⟨T30, T31, T32⟩, ⟨T40, T41, T42⟩, ⟨T50, T51, T52⟩⟩
  rw [wp_bind]
  iapply (part3_spec D K c _ _ _ _ _) $$ [HW T00 P00 HO U01]
  · iframe HR HW T00 P00 HO U01
  iintro %r3 ⟨HW, F00, HO, P01⟩
  rw [wp_bind]
  iapply (part4_spec D K c _ _ _) $$ [HW T01 P01 HO U02]
  · iframe HR HW T01 P01 HO U02
  iintro %r4 ⟨HW, F01, HO, P02⟩
  rw [wp_bind]
  iapply (part5_spec D K c _ _ _) $$ [HW T02 P02 HO B0 A00]
  · iframe HR HW T02 P02 HO B0 A00
  iintro %r5 ⟨HW, F02, HO, B0, R00, ZR00⟩
  rw [wp_bind]
  iapply (part6_spec D K c _ _) $$ [B0 R00 U10 T10 HO]
  · iframe HR B0 R00 U10 T10 HO
  iintro %r6 ⟨B0, R00, F10, HO⟩
  obtain ⟨v175, v176⟩ := r6; dsimp only
  rw [wp_bind]
  iapply (part7_spec D K c _ _ _ _) $$ [HW HO B1 A01]
  · iframe HR HW HO B1 A01
  iintro %v177 %w7 ⟨%hw7, HW, HO, B1, R01, ZR01⟩
  dsimp only
  rw [wp_bind]
  iapply (part8_spec D K c _ _ _ _ w7 hw7) $$ [HW HO B1 U11 T11]
  · iframe HR HW HO B1 U11 T11
  iintro %r8 ⟨%hr8, HW, HO, B1, F11⟩
  obtain ⟨v228, v230, v237⟩ := r8
  dsimp only at hr8 ⊢
  subst hr8
  rw [wp_bind]
  iapply (part9_spec D K c _ _) $$ [HW HO B2 A02]
  · iframe HR HW HO B2 A02
  iintro %w9 ⟨%hw9, HW, HO, B2, R02, ZR02⟩
  rw [wp_bind]
  iapply (part10_spec D K c _ _ _ _ w9 hw9) $$ [U12 T12 HO B0 A10]
  · iframe HR U12 T12 HO B0 A10
  iintro %r10 %f10 ⟨%hr10, %hf10, B0, F12, HO, R10, ZR10⟩
  obtain ⟨v281, v283, v294⟩ := r10
  dsimp only at hr10 ⊢
  subst hr10
  rw [wp_bind]
  iapply (part11_spec D K c _ _ _ _ f10 hf10) $$ [B0 R10 U20 T20 HO]
  · iframe HR B0 R10 U20 T20 HO
  iintro %r11 ⟨B0, R10, F20, HO⟩
  obtain ⟨v324, v326, v327⟩ := r11; dsimp only
  rw [wp_bind]
  iapply (part12_spec D K c _ _ _ _) $$ [B1 A11 U21 HO]
  · iframe HR B1 A11 U21 HO
  iintro %r12 ⟨B1, R11, ZR11, P21, HO⟩
  rw [wp_bind]
  iapply (part13_spec D K c _ _ _ _ _ _) $$ [P21 T21 HO B2 A12]
  · iframe HR P21 T21 HO B2 A12
  iintro %r13 ⟨F21, HO, B2, R12, ZR12⟩
  obtain ⟨v367, v369, v390⟩ := r13; dsimp only
  rw [wp_bind]
  iapply (part14_spec D K c _ _ _ _ _) $$ [B2 U22 T22 HO]
  · iframe HR B2 U22 T22 HO
  iintro %r14 ⟨B2, F22, HO⟩
  obtain ⟨v410, v412⟩ := r14; dsimp only
  rw [wp_bind]
  iapply (part15_spec D K c _ _ _ _) $$ [A20 HO B0 V0 T30]
  · iframe HR A20 HO B0 V0 T30
  iintro %r15 ⟨B0, R20, ZR20, F30, L0, HO⟩
  rw [wp_bind]
  iapply (part16_spec D K c _ _ _ _) $$ [A21 HO B1 V1 T31]
  · iframe HR A21 HO B1 V1 T31
  iintro %r16 ⟨B1, R21, ZR21, F31, L1, HO⟩
  obtain ⟨v486, v487⟩ := r16; dsimp only
  rw [wp_bind]
  iapply (part17_spec D K c _ _ _ _) $$ [A22 HO B2 V2 T32]
  · iframe HR A22 HO B2 V2 T32
  iintro %r17 ⟨B2, R22, ZR22, F32, L2, HO⟩
  rw [wp_bind]
  iapply (part18_spec D K c _ _ _ _ _) $$ [A30 L0 T40 A31 HO]
  · iframe HR A30 L0 T40 A31 HO
  iintro %r18 ⟨ZR30, F40, G01, L0, R31, ZR31, HO⟩
  obtain ⟨v523, v542, v551⟩ := r18; dsimp only
  rw [wp_bind]
  iapply (part19_spec D K c _ _ _ _ _ _) $$ [R31 L1 T41 A32 L2 T42 HO]
  · iframe HR R31 L1 T41 A32 L2 T42 HO
  iintro %r19 ⟨F41, G11, L1, ZR32, F42, G21, L2, HO⟩
  obtain ⟨v561, v580, v582, z19⟩ := r19; dsimp only
  rw [wp_bind]
  iapply (part20_spec D K c _ _ _ _ _) $$ [A40 L0 T50 A41 HO]
  · iframe HR A40 L0 T50 A41 HO
  iintro %r20 ⟨ZR40, F50, G02, L0, R41, ZR41, HO⟩
  rw [wp_bind]
  iapply (part21_spec D K c _ _ _ _ _) $$ [R41 L1 T51 A42 L2 T52 A50 L0 HO]
  · iframe HR R41 L1 T51 A42 L2 T52 A50 L0 HO
  iintro %r21 ⟨F51, G12, L1, ZR42, F52, G22, L2, ZR50, G03, L0, HO⟩
  rw [wp_bind]
  iapply (part22_spec D K c _ _ f3) $$ [A51 L1 A52 L2 L0 H3 F00 HO]
  · iframe HR A51 L1 A52 L2 L0 H3 F00 HO
  iintro %r22 ⟨ZR51, ZR52, G13, G23, L0, L1, L2, H3, P00, ZS00, HO⟩
  rw [wp_bind]
  iapply (part23_spec D K c) $$ [F01 F02 F10 F11 HO]
  · iframe HR F01 F02 F10 F11 HO
  iintro %r23 ⟨⟨P01, ZS01⟩, ⟨P02, ZS02⟩, ⟨P10, ZS10⟩, ⟨P11, ZS11⟩, HO⟩
  rw [wp_bind]
  iapply (part24_spec D K c) $$ [F12 F20 F21 HO]
  · iframe HR F12 F20 F21 HO
  iintro %r24 ⟨⟨P12, ZS12⟩, ⟨P20, ZS20⟩, ⟨P21, ZS21⟩, HO⟩
  rw [wp_bind]
  iapply (part25_spec D K c) $$ [F22 F30 F31 F32 F40 F41 HO]
  · iframe HR F22 F30 F31 F32 F40 F41 HO
  iintro %r25 ⟨⟨P22, ZS22⟩, ⟨P30, ZS30⟩, ⟨P31, ZS31⟩, ⟨P32, ZS32⟩, ⟨P40, ZS40⟩, ⟨P41, ZS41⟩, HO⟩
  simp only [Prog.lift, Prog.bind_op, Prog.bind_ret, Prog.pure_eq_ret]
  iapply (send_wait D K c (4, 2) rfl rfl) $$ [F42 HO]
  · iframe HR F42 HO
  iintro ⟨P42, ZS42, HO⟩
  iapply (send_wait D K c (5, 0) rfl rfl) $$ [F50 HO]
  · iframe HR F50 HO
  iintro ⟨P50, ZS50, HO⟩
  iapply (send_wait D K c (5, 1) rfl rfl) $$ [F51 HO]
  · iframe HR F51 HO
  iintro ⟨P51, ZS51, HO⟩
  iapply (send_wait D K c (5, 2) rfl rfl) $$ [F52 HO]
  · iframe HR F52 HO
  iintro ⟨P52, ZS52, HO⟩
  rw [wp_ret]; imodintro
  iapply Hk
  iframe H0 H1 H2 H3 HO
  isplitl [B0 B1 B2 R00 R01 R02 R10 R11 R12 R20 R21 R22 P00 P01 P02 P10 P11 P12 P20 P21 P22 P30 P31 P32 P40 P41 P42 P50 P51 P52 G01 G02 G03 G11 G12 G13 G21 G22 G23 L0 L1 L2 HW HE]
  · iapply (scratch_back D c)
    unfold bandEnd
    iframe B0 B1 B2 R00 R01 R02 R10 R11 R12 R20 R21 R22 P00 P01 P02 P10 P11 P12 P20 P21 P22 P30 P31 P32 P40 P41 P42 P50 P51 P52
    iframe G01 G02 G03 G11 G12 G13 G21 G22 G23 L0 L1 L2 HW HE
  unfold drained
  rw [bigSep_Cp (fun p => semVal (sendCell p c) 0), bigSep_Cp (fun p => semVal (recvCell p c) 0)]
  iframe Zb ZS00 ZR00 ZS01 ZR01 ZS02 ZR02 ZS10 ZR10 ZS11 ZR11 ZS12 ZR12 ZS20 ZR20 ZS21 ZR21 ZS22 ZR22 ZS30 ZR30 ZS31 ZR31 ZS32 ZR32 ZS40 ZR40 ZS41 ZR41 ZS42 ZR42 ZS50 ZR50 ZS51 ZR51 ZS52 ZR52

end Body

end Cert.Mlp

end
-- ==== Proof.Launch.lean ====
/-
  The launch on the eight devices: what each starts from, and the run of the whole program.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.CollectiveSegs

@[expose] public section

set_option maxRecDepth 8000

noncomputable section

namespace Cert.Mlp

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state the run starts from. -/
def s₀ : MemSt nD τ sig (Elt F) := ⟨m, fun _ => 0, ρ⟩

/-- What the devices' inputs are in it. -/
def inp : Inp F where
  x c := (win0_0.blk (0 : Fin 1)).view.read (Elt F) (m ((c : Thread nD τ).loc main_arg0))
  w1 c := (win0_1.blk (0 : Fin 1)).view.read (Elt F) (m ((c : Thread nD τ).loc main_arg1))
  w2 c := (win0_2.blk (0 : Fin 1)).view.read (Elt F) (m ((c : Thread nD τ).loc main_arg2))

/-! ## Families over the protocol's semaphores -/

theorem bigSep_pairs (Φ : Bool × Cp → sProp 𝕄) :
    bigSep Finset.univ Φ = iprop((bigSep Finset.univ fun p => Φ (false, p)) ∗ bigSep Finset.univ fun p => Φ (true, p)) := by
  rw [bigSep_univ_prod, bigSep_univ_eq_bigSepL [false, true] (by decide) (by decide), bigSepL_cons_cons, bigSepL_singleton]; rfl
theorem swap_sides (A B C : sProp 𝕄) : iprop((A ∗ B) ∗ C) = iprop(C ∗ A ∗ B) := by
  refine BI.Entails.antisymm (show _ ⊢ (_ : sProp 𝕄) from ?_) (show _ ⊢ (_ : sProp 𝕄) from ?_)
  · iintro ⟨⟨H1, H2⟩, H0⟩
    isplitl [H0]; · iexact H0
    isplitl [H1] <;> iassumption
  · iintro ⟨H0, H1, H2⟩
    isplitr [H0]
    · isplitl [H1] <;> iassumption
    iexact H0
theorem bigSep_key (Φ : Key → sProp 𝕄) :
    bigSep Finset.univ Φ = iprop(Φ none ∗ (bigSep Finset.univ fun p => Φ (some (false, p))) ∗ bigSep Finset.univ fun p => Φ (some (true, p))) := by
  rw [BI.bigSep_univ_equiv (Equiv.optionEquivSumPUnit.{0} (Bool × Cp)).symm Φ, bigSep_univ_sum, bigSep_univ_of_subsingleton PUnit.unit.{1}, bigSep_pairs]
  refine swap_sides _ _ _
theorem bigSep_three (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]; rfl

/-! ## What a device starts from and ends with -/

/-- The tokens of the duties a device pays. -/
def payToks (c : Dev nD) : sProp 𝕄 :=
  iprop((bigSep Finset.univ fun a : Fin 3 => dutyTok ER (barCell (flip a c)) 0 a)
    ∗ (bigSep Finset.univ fun p : Cp => dutyTok ER (sendCell p c) 0 0) ∗ bigSep Finset.univ fun p : Cp => dutyTok ER (recvCell p (peer p c)) 0 0)
def linear (c : Dev nD) : sProp 𝕄 := iprop((bigSep Finset.univ fun k : Key => atPos ER (kcell (c, k)) 0 ∅ 0) ∗ payToks c)
/-- The invariants and the rounds reached. -/
def invs (K : Dev nD × Key → ℕ) : sProp 𝕄 :=
  iprop((bigSep Finset.univ fun ck : Dev nD × Key => cellInv ER (rd (inp m)) (K ck) (kcell ck)) ∗ bigSep Finset.univ fun ck : Dev nD × Key => reached ER (kcell ck) 0)
instance invs_persistent (K : Dev nD × Key → ℕ) : BI.Persistent (invs m K) := by unfold invs; infer_instance

def G' (c : Dev nD) : sProp 𝕄 := iprop(∃ K, invs m K ∗ linear c)
def start (c : Dev nD) : sProp 𝕄 :=
  iprop(G' m c ∗ (cred (tallyAt (barCell c) () 3) ∗ bigSep Finset.univ fun p : Cp => cred (tallyAt (recvCell p c) () (cr (hgt p)))) ∗ levAts L lv)
def Φ₀ (c : Dev nD) : sProp 𝕄 := iprop(start m c ∗ scratch c)
def Φ₁ (c : Dev nD) : sProp 𝕄 := iprop(scratch (F := F) c ∗ drained c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m).x c
    | ⟨1, _⟩ => (inp m).w1 c
    | ⟨2, _⟩ => (inp m).w2 c
    | ⟨3, _⟩ => OUT (inp m)
  Φ t := match t with
    | ⟨0, _⟩ => Φ₀ m c
    | ⟨_ + 1, _⟩ => Φ₁ c
  q _ := fullShare
  owed t := match t with
    | ⟨0, _⟩ => owed₀ c
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

abbrev t₀ : Fin cfg0.N := t0_0

set_option maxRecDepth 4000 in
def bodyPre (c : Dev nD) : sProp 𝕄 :=
  iprop(Φ₀ m c ∗ (dats m ρ 0 c).owesAt () t₀.castSucc
    ∗ (∃ d, stg c cc0_stg0_0 ((dats m ρ 0 c).before (0 : Fin 4) t₀ d)) ∗ (∃ d, stg c cc0_stg1_0 ((dats m ρ 0 c).before (1 : Fin 4) t₀ d))
    ∗ (∃ d, stg c cc0_stg2_0 ((dats m ρ 0 c).before (2 : Fin 4) t₀ d)) ∗ (∃ d, stg c cc0_stg3_0 ((dats m ρ 0 c).before (3 : Fin 4) t₀ d)))
def bodyPost (c : Dev nD) : sProp 𝕄 :=
  iprop(Φ₁ c ∗ (dats m ρ 0 c).owesAt () t₀.succ ∗ stg c cc0_stg0_0 ((inp m).x c) ∗ stg c cc0_stg1_0 ((inp m).w1 c)
    ∗ stg c cc0_stg2_0 ((inp m).w2 c) ∗ stg c cc0_stg3_0 (OUT (inp m)))

/-- A device's tokens and credits, as the body takes them. -/
theorem linear_start (c : Dev nD) :
    iprop(linear (F := F) c ∗ cred (tallyAt (barCell c) () 3) ∗ bigSep Finset.univ fun p : Cp => cred (tallyAt (recvCell p c) () (cr (hgt p))))
      ⊢ iprop(barStart (F := F) c ∗ (bigSep Finset.univ fun p : Cp => copyToks (F := F) p c) ∗ bigSep Finset.univ fun p : Cp => await (F := F) p c) := by
  unfold linear payToks barStart copyToks await
  rw [bigSep_key, bigSep_three, bigSep_sep', bigSep_sep', bigSep_sep']
  iintro ⟨⟨⟨Ab, As, Ar⟩, ⟨T0, T1, T2⟩, Ts, Tr⟩, Cb, Cr⟩
  iframe Ab As Ar T0 T1 T2 Ts Tr Cb Cr

theorem records_intro (K : Dev nD × Key → ℕ) : iprop(invs m K ∗ levAts L lv) ⊢ records (inp m) K := by
  unfold invs records
  iintro ⟨⟨H1, H2⟩, H3⟩
  iframe H1 H2 H3

set_option maxRecDepth 8000 in
/-- The body does what the launch asks of it. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ wp frame (wpE (defs₀ (F := F)) 𝒱₀ c none) Set.univ (call (cc0_body (F := F))) (fun _ => bodyPost m ρ c)
  unfold bodyPre Φ₀ start G'
  iintro ⟨⟨⟨⟨%K, #HI, Hl⟩, Hc, #Hlev⟩, Hs⟩, Ho, ⟨%d0, %g0, %hg0, H0⟩, ⟨%d1, %g1, %hg1, H1⟩, ⟨%d2, %g2, %hg2, H2⟩, ⟨%d3, %g3, %hg3, H3⟩⟩
  have hx : g0 = (inp m).x c := by rw [hg0]; unfold Dat.before; rw [if_pos (fetch0_0 t₀)]; rfl
  have hw1 : g1 = (inp m).w1 c := by rw [hg1]; unfold Dat.before; rw [if_pos (fetch0_1 t₀)]; rfl
  have hw2 : g2 = (inp m).w2 c := by rw [hg2]; unfold Dat.before; rw [if_pos (fetch0_2 t₀)]; rfl
  subst hx hw1 hw2
  unfold Dat.owesAt Pipeline.owesWithin
  icases Ho with ⟨%W, %hW, HO⟩
  rw [show (dats m ρ 0 c).owed t₀.castSucc = owed₀ c from rfl]
  ihave #HR := (records_intro m K) $$ [HI Hlev]
  · iframe HI Hlev
  ihave Hl := (linear_start c) $$ [Hl Hc]
  · iframe Hl Hc
  icases Hl with ⟨Hb, Ht, Ha⟩
  iapply (body_spec (inp m) K c W g3) $$ [H0 H1 H2 H3 Hs HO Hb Ht Ha]
  · iframe HR H0 H1 H2 H3 Hs HO Hb Ht Ha
  iintro ⟨H0, H1, H2, H3, Hs, HO, Hd⟩
  unfold bodyPost Φ₁ Dat.owesAt Pipeline.owesWithin OW
  icases HO with ⟨%W', HO⟩
  rw [owedFrom_end, show (dats m ρ 0 c).owed t₀.succ = 0 from rfl]
  isplitl [Hs Hd]
  · isplitl [Hs] <;> iassumption
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

/-! ## The launch -/

theorem ownSemFacts : Pipeline.OwnSemFacts cfg0.spec osem := by decide +kernel

theorem share_eq (c : Dev nD) (w : Fin cfg0.W) : (dats m ρ 0 c).share w = fullShare := by unfold Dat.share; split <;> rfl

def cubeCells : Finset (GSem nD τ sig) := Finset.univ.map ⟨kcell, kcell_inj⟩

/-- The tokens of a device's own cells: one for each barrier signal, one for each of a copy's ends. -/
def tokOf (cj : Dev nD × (Fin 3 ⊕ Bool × Cp)) : GSem nD τ sig × ℕ × Fin 3 := match cj.2 with
  | .inl a => (barCell cj.1, 0, a)
  | .inr k => (kcell (cj.1, some k), 0, 0)
theorem tokOf_inj : Function.Injective tokOf := by
  rintro ⟨c, j⟩ ⟨c', j'⟩ h
  have hg : (tokOf (c, j)).1 = (tokOf (c', j')).1 := congrArg Prod.fst h
  have hd : (tokOf (c, j)).2.2 = (tokOf (c', j')).2.2 := congrArg (fun x => x.2.2) h
  rcases j with a | k <;> rcases j' with a' | k' <;> have h2 := kcell_inj hg
  · obtain rfl : c = c' := (Prod.mk.inj h2).1
    obtain rfl : a = a' := hd
    rfl
  · cases (Prod.mk.inj h2).2
  · cases (Prod.mk.inj h2).2
  · obtain rfl : c = c' := (Prod.mk.inj h2).1
    obtain rfl : k = k' := Option.some.inj (Prod.mk.inj h2).2
    rfl
def cubeToks : Finset (GSem nD τ sig × ℕ × Fin 3) := Finset.univ.map ⟨tokOf, tokOf_inj⟩

def u₀ : UU := (initOf (Pipeline.cells cfgs cellOf_inj) (Pipeline.launchToks cfgs cellOf_inj), initOf cubeCells cubeToks)

def toks (c : Dev nD) : sProp 𝕄 :=
  iprop((bigSep Finset.univ fun a : Fin 3 => dutyTok ER (barCell c) 0 a) ∗ bigSep Finset.univ fun k : Bool × Cp => dutyTok ER (kcell (c, some k)) 0 0)

/-- What the launch gives each device. -/
def G (c : Dev nD) : sProp 𝕄 :=
  iprop((bigSep Finset.univ fun k : Key => roundState ER (rd (inp m)) (kcell (c, k)) 0)
    ∗ (bigSep Finset.univ fun k : Key => iprop(atPos ER (kcell (c, k)) 0 ∅ 0 ∗ reached ER (kcell (c, k)) 0)) ∗ toks c)

theorem fund_cube : BI.own (ER (initOf cubeCells cubeToks)) ⊢ (|==> bigSep Finset.univ (G m) : sProp 𝕄) := by
  have hX (Φ : GSem nD τ sig → sProp 𝕄) : bigSep cubeCells Φ = bigSep Finset.univ fun c : Dev nD => bigSep Finset.univ fun k : Key => Φ (kcell (c, k)) := by
    unfold cubeCells; rw [bigSep_map, bigSep_univ_prod]; rfl
  have hT : bigSep cubeToks (fun x => (dutyTok ER x.1 x.2.1 x.2.2 : sProp 𝕄)) = bigSep Finset.univ fun c : Dev nD => toks c := by
    unfold cubeToks; rw [bigSep_map, bigSep_univ_prod]
    exact bigSep_congr fun c _ => by unfold toks; rw [bigSep_univ_sum]; rfl
  iintro HX
  imod (Rounds.fund ER (rd (inp m)) cubeCells cubeToks) $$ HX with ⟨Hst, Hr, Hat, Htok⟩
  imodintro
  ihave Hst := (Entails.of_eq (hX fun g => roundState ER (rd (inp m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem ownSems0_eq (c : Dev nD) : (Pipeline.ownSems0 (Ix := Unit) (Name := ℕ) (U := UU) (Lvl := ℕ) (Val := Elt F) (τ := τ) osem c : sProp 𝕄)
    = iprop((bigSep Finset.univ fun p : Cp => semVal (sendCell p c) 0) ∗ bigSep Finset.univ fun p : Cp => semVal (recvCell p c) 0) := by
  unfold Pipeline.ownSems0; exact bigSep_pairs _
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Key => semVal (kcell (c, k)) 0 : sProp 𝕄) := by
  rw [ownSems0_eq, unscopedSems0_eq, bigSep_key]
  iintro ⟨⟨HS, HV⟩, HB⟩
  iframe HB HS HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd (inp m)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Key => semVal (kcell (c, k)) 0) ∗ bigSep Finset.univ fun k : Key => roundState ER (rd (inp m)) (kcell (c, k)) 0)
      ⊢ (|={Set.univ}=> bigSep Finset.univ fun k => iprop(∃ κ : ℕ, cellInv ER (rd (inp m)) κ (kcell (c, k))) : sProp 𝕄) from by
        rw [← bigSep_sep']
        exact (bigSep_mono fun k _ => (Rounds.body_intro ER (rd (inp m)) (kcell (c, k))).trans inv_alloc).trans (bigSep_fupd _ _)) $$ [Hv Hst] with Hinv
  · isplitl [Hv] <;> iassumption
  imodintro
  iframe Hinv Hat Htok

/-- The tokens dealt out: a barrier's along the axis of each, a landing's to the copy's sender. -/
theorem toks_around : (bigSep Finset.univ fun c : Dev nD => (toks c : sProp 𝕄)) ⊢ bigSep Finset.univ fun c : Dev nD => payToks c := by
  have hb : (bigSep Finset.univ fun c : Dev nD => bigSep Finset.univ fun a : Fin 3 => (dutyTok ER (barCell c) 0 a : sProp 𝕄))
      = bigSep Finset.univ fun c : Dev nD => bigSep Finset.univ fun a : Fin 3 => dutyTok ER (barCell (flip a c)) 0 a := by
    rw [bigSep_univ_comm, bigSep_univ_comm (fun (c : Dev nD) (a : Fin 3) => (dutyTok ER (barCell (flip a c)) 0 a : sProp 𝕄))]
    exact bigSep_congr fun a _ => BI.bigSep_univ_equiv ⟨flip a, flip a, flip_flip a, flip_flip a⟩ fun c : Dev nD => (dutyTok ER (barCell c) 0 a : sProp 𝕄)
  have hr : (bigSep Finset.univ fun c : Dev nD => bigSep Finset.univ fun p : Cp => (dutyTok ER (recvCell p c) 0 0 : sProp 𝕄))
      = bigSep Finset.univ fun c : Dev nD => bigSep Finset.univ fun p : Cp => dutyTok ER (recvCell p (peer p c)) 0 0 := by
    rw [bigSep_univ_comm, bigSep_univ_comm (fun (c : Dev nD) (p : Cp) => (dutyTok ER (recvCell p (peer p c)) 0 0 : sProp 𝕄))]
    exact bigSep_congr fun p _ => BI.bigSep_univ_equiv ⟨peer p, peer p, peer_peer p, peer_peer p⟩ fun c : Dev nD => (dutyTok ER (recvCell p c) 0 0 : sProp 𝕄)
  unfold toks payToks
  simp only [bigSep_pairs]
  rw [bigSep_sep', bigSep_sep', bigSep_sep', bigSep_sep', hb, hr]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Key → ℕ) (c : Dev nD) : iprop(invs m K ∗ linear c) ⊢ G' m c := by
  unfold G'; iintro H; iexists K; iexact H

theorem regroup :
    (bigSep Finset.univ fun c : Dev nD => iprop((bigSep Finset.univ fun k => iprop(∃ κ : ℕ, cellInv ER (rd (inp m)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Key => iprop(∃ κ : ℕ, cellInv ER (rd (inp m)) κ (kcell ck))),
    bigSep_congr (s := Finset.univ) (fun (c : Dev nD) _ => bigSep_sep' Finset.univ (fun k : Key => (atPos ER (kcell (c, k)) 0 ∅ 0 : sProp 𝕄)) (fun k => reached ER (kcell (c, k)) 0)),
    bigSep_sep', ← bigSep_univ_prod (fun ck : Dev nD × Key => (reached ER (kcell ck) 0 : sProp 𝕄))]
  iintro ⟨HI, ⟨Hat, #HR⟩, Htok⟩
  ihave HK := (BI.bigSep_exists_pi Finset.univ (fun (ck : Dev nD × Key) (κ : ℕ) => (cellInv ER (rd (inp m)) κ (kcell ck) : sProp 𝕄))) $$ HI
  icases HK with ⟨%K, #HI⟩
  ihave Htk := (toks_around (F := F)) $$ Htok
  iapply (with_persistent (R := invs m K) fun c _ => ghost_intro m K c)
  isplitr
  · unfold invs; isplitl; · iexact HI
    iexact HR
  · iapply ((Entails.of_eq (bigSep_sep' Finset.univ (fun c : Dev nD => bigSep Finset.univ fun k : Key => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The semaphores' records, made for all the devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The credits -/

theorem launch_recvs (c : Dev nD) : (Pipeline.launchCred (fun d => owedFrom d 0) c : sProp 𝕄)
    ⊢ bigSep Finset.univ fun p : Cp => cred (tallyAt (recvCell p c) () (cr (hgt p))) := by
  rw [show (fun d => owedFrom d 0) = fun d : Dev nD => ∑ p ∈ Finset.univ, (fun (p : Cp) (d : Dev nD) => (tallyAt (recvCell p (peer p d)) () (cr (hgt p)) : CellTallies nD τ sig Unit)) p d from
    funext fun d => by unfold owedFrom; exact Finset.sum_congr rfl fun p _ => if_pos (Nat.zero_le _)]
  rw [Pipeline.launchCred_sum]
  exact bigSep_mono fun p _ => Pipeline.launchCred_tallyAt (csem (some (true, p))) (peer p) (peer p) (peer_peer p) (peer_peer p) () (cr (hgt p)) c

theorem launch_bar (a : Fin 3) (c : Dev nD) : (Pipeline.launchCred (fun d => (tallyAt (barCell (flip a d)) () 1 : CellTallies nD τ sig Unit)) c : sProp 𝕄)
    ⊢ cred (tallyAt (barCell c) () 1) :=
  Pipeline.launchCred_tallyAt (csem none) (flip a) (flip a) (flip_flip a) (flip_flip a) () 1 c

theorem creds (c : Dev nD) : (Pipeline.launchCred owed₀ c : sProp 𝕄)
    ⊢ iprop(cred (tallyAt (barCell c) () 3) ∗ bigSep Finset.univ fun p : Cp => cred (tallyAt (recvCell p c) () (cr (hgt p)))) := by
  rw [show (owed₀ : Dev nD → CellTallies nD τ sig Unit) = fun d => ((owedFrom d 0 + tallyAt (barCell (flip 2 d)) () 1) + tallyAt (barCell (flip 1 d)) () 1) + tallyAt (barCell (flip 0 d)) () 1 from rfl]
  rw [Pipeline.launchCred_add (fun d => (owedFrom d 0 + tallyAt (barCell (flip 2 d)) () 1) + tallyAt (barCell (flip 1 d)) () 1),
    Pipeline.launchCred_add (fun d => owedFrom d 0 + tallyAt (barCell (flip 2 d)) () 1), Pipeline.launchCred_add (fun d => owedFrom d 0)]
  iintro ⟨⟨⟨Hr, H2⟩, H1⟩, H0⟩
  ihave Hr := (launch_recvs (F := F) c) $$ Hr
  ihave H2 := (launch_bar (F := F) 2 c) $$ H2
  ihave H1 := (launch_bar (F := F) 1 c) $$ H1
  ihave H0 := (launch_bar (F := F) 0 c) $$ H0
  isplitl [H0 H1 H2]
  · rw [← tallyAt_add (barCell c) () 2 1, ← tallyAt_add (barCell c) () 1 1]
    iapply (cred_add _ _).2
    isplitl [H0 H1]
    · iapply (cred_add _ _).2
      isplitl [H0] <;> iassumption
    iexact H2
  iexact Hr

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem scopedRest_eq (c : Dev nD) : (Pipeline.scopedRest (Ix := Unit) (Name := ℕ) (U := UU) (Lvl := ℕ) (Val := Elt F) cfg0.spec c : sProp 𝕄) = scratch c :=
  scopedRest0_eq c

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest_eq, ownSems0_eq, unscopedSems0_eq]
  unfold Φ₁ drained
  iintro ⟨Hr, Hb, Hs, Hv⟩
  iframe Hb Hs Hv Hr

theorem stage_ne : ∀ (w : Fin cfg0.W) (s : Fin (cfg0.win w).nbuf) (k : Key), csem k ≠ SemLoc.dma ((cfg0.win w).sem s) := by decide +kernel

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_launch c _ (stage_ne w s)
    · rw [show (dats m ρ 0 c).owed ⟨_ + 1, ht⟩ = 0 from rfl, MayWait_zero]
      iintro -; iempintro

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero, for any float values: the program on the eight devices ends, with its
    result at what the body leaves, its arguments as they were and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cube m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Mlp

end
-- ==== Proof.Values.lean ====
/-
  The result over the extended reals: the three exchanges sum the devices' parts, whichever band a row is in, and that sum is the plain product.
-/
module

public import proofs.«01_k».proof.Proof.Launch
public import proofs.«01_k».proof.Proof.Gen.ReferenceIdeal.Run
public import Idealize.ShloMosaic.Lib.Pointwise
public import Idealize.ShloMosaic.Lib.LayoutAt
public import Idealize.ShloMosaic.Lib.Pipeline.ValueKit.Acc

@[expose] public section

set_option maxRecDepth 8000

noncomputable section

namespace Cert.Mlp

open Cert.KernelIdeal Cert.KernelIdeal.Gen
open Idealize.ShloMosaic
open Idealize.ShloMosaic.TcCoe
open Idealize.SL.Sem
open scoped BigOperators

/-! ## A device's part -/

/-- The product with one slice of the hidden units, at a row and a column. -/
def part (x : FVec Ideal S768x768 .f32) (w1 : FVec Ideal S768x1536 .f32) (w2 : FVec Ideal S1536x768 .f32) (r j : Fin 768) : EReal :=
  ∑ k : Fin 1536, max (∑ l : Fin 768, x (ix2 r l) * w1 (ix2 l k)) 0 * w2 (ix2 k j)

theorem pay7_at (v : Vec Ideal S192x768 .bf16) (a : Vec Ideal S768x1536 .bf16) (b : Vec Ideal S1536x768 .bf16) (r : Fin 192) (j : Fin 768) :
    k0_pay7 (F := Ideal) v a b (ix2 r j) = ∑ k : Fin 1536, max (∑ l : Fin 768, v (ix2 r l) * a (ix2 l k)) (0 : EReal) * b (ix2 k j) := by
  pointwise [k0_pay7]
theorem pay10_at (v : Vec Ideal S128x768 .bf16) (a : Vec Ideal S768x1536 .bf16) (b : Vec Ideal S1536x768 .bf16) (r : Fin 128) (j : Fin 768) :
    k0_pay10 (F := Ideal) v a b (ix2 r j) = ∑ k : Fin 1536, max (∑ l : Fin 768, v (ix2 r l) * a (ix2 l k)) (0 : EReal) * b (ix2 k j) := by
  pointwise [k0_pay10]
theorem pay14_at (v : Vec Ideal S64x768 .bf16) (a : Vec Ideal S768x1536 .bf16) (b : Vec Ideal S1536x768 .bf16) (r : Fin 64) (j : Fin 768) :
    k0_pay14 (F := Ideal) (k0_pay13 v a) b (ix2 r j) = ∑ k : Fin 1536, max (∑ l : Fin 768, v (ix2 r l) * a (ix2 l k)) (0 : EReal) * b (ix2 k j) := by
  pointwise [k0_pay14, k0_pay13]

variable (D : Inp Ideal)

theorem XB_at (c : Dev nD) (i) : XB D c i = D.x c i := by unfold XB; pointwise [k0_pay1]
theorem W1B_at (c : Dev nD) (i) : W1B D c i = D.w1 c i := by unfold W1B; pointwise [k0_pay2]
theorem W2B_at (c : Dev nD) (i) : W2B D c i = D.w2 c i := by unfold W2B; pointwise [k0_pay3]

theorem blk_at {n a : ℕ} (c : Dev nD) (i : Fin n) (l : Fin 768) {r : Fin 768} (h : a + i.val = r.val) :
    blk D n c a (ix2 i l) = D.x c (ix2 r l) := by
  show XB D c _ = _
  rw [XB_at]
  refine congrArg (D.x c) ?_
  funext e
  match e with
  | ⟨0, _⟩ => apply Fin.ext; show (a + i.val) % 768 = r.val; rw [h]; exact Nat.mod_eq_of_lt r.isLt
  | ⟨1, _⟩ => rfl

theorem Y0_at (c : Dev nD) (r j : Fin 768) : Y0 D c r.val j = part (D.x c) (D.w1 c) (D.w2 c) r j := by
  have hr := r.isLt
  unfold Y0 part
  split_ifs with h1 h2
  · refine (pay7_at _ _ _ ⟨r.val % 192, _⟩ j).trans ?_; simp only [W1B_at, W2B_at, blk_at D c ⟨r.val % 192, Nat.mod_lt _ (by decide)⟩ _ (r := r) (Nat.div_add_mod' r.val 192)]
  · refine (pay10_at _ _ _ ⟨r.val % 128, _⟩ j).trans ?_; simp only [W1B_at, W2B_at, blk_at D c ⟨r.val % 128, Nat.mod_lt _ (by decide)⟩ _ (r := r) (Nat.div_add_mod' r.val 128)]
  · refine (pay14_at _ _ _ ⟨r.val % 64, _⟩ j).trans ?_; simp only [W1B_at, W2B_at, blk_at D c ⟨r.val % 64, Nat.mod_lt _ (by decide)⟩ _ (r := r) (Nat.div_add_mod' r.val 64)]

/-! ## The exchanges -/

/-- The devices whose parts a partial sum holds. -/
def summed (b : Fin 3) : ℕ → Dev nD → List (Dev nD)
  | 0, c => [c]
  | s + 1, c => summed b s c ++ summed b s (flip (axisOf b s) c)

theorem Y_at (r : ℕ) (j : Fin 768) : ∀ (s : ℕ) (c : Dev nD), Y D s c r j = ((summed (bandOf r) s c).map fun d => (Y0 D d r j : EReal)).sum
  | 0, c => by simp [Y, summed]
  | s + 1, c => by
    rw [summed, List.map_append, List.sum_append, ← Y_at r j s, ← Y_at r j s]; rfl

/-- After three exchanges every device's part is in the sum, once. -/
theorem summed_all (b : Fin 3) (c : Dev nD) : (summed b 3 c).Perm (List.finRange 8) := by revert b c; decide +kernel

theorem Y3_at (c : Dev nD) (r j : Fin 768) : Y D 3 c r.val j = ∑ d : Dev nD, part (D.x d) (D.w1 d) (D.w2 d) r j := by
  rw [Y_at, ((summed_all _ c).map _).sum_eq]
  refine (Fin.sum_univ_def _).symm.trans ?_
  exact Finset.sum_congr rfl fun d _ => Y0_at D d r j

theorem OUT_at (r j : Fin 768) : OUT D (ix2 r j) = ∑ d : Dev nD, part (D.x d) (D.w1 d) (D.w2 d) r j :=
  Y3_at D (owner r.val) r j

/-! ## The plain product -/

/-- The reference's result, as a function of the whole arguments. -/
def ref (x : FVec Ideal S768x768 .f32) (w1 : FVec Ideal Cert.ReferenceIdeal.S768x12288 .f32) (w2 : FVec Ideal Cert.ReferenceIdeal.S12288x768 .f32) :
    FVec Ideal S768x768 .f32 :=
  Host.dotGeneral Cert.ReferenceIdeal.dot_S768x12288_S12288x768_S768x768_1_0_0_1_n_n none
    (maximumf (Host.dotGeneral Cert.ReferenceIdeal.dot_S768x768_S768x12288_S768x12288_1_0_0_1_n_n none x w1)
      (broadcastInDim Cert.ReferenceIdeal.S768x12288 ![] Cert.ReferenceIdeal.Gen.bcast_S_S768x12288 (constant Cert.ReferenceIdeal.S_ .f32 0x00000000#32))) w2

theorem ref_at (x : FVec Ideal S768x768 .f32) (w1 : FVec Ideal Cert.ReferenceIdeal.S768x12288 .f32) (w2 : FVec Ideal Cert.ReferenceIdeal.S12288x768 .f32)
    (r j : Fin 768) :
    ref x w1 w2 (ix2 r j) = ∑ k : Fin 12288, max (∑ l : Fin 768, x (ix2 r l) * w1 (ix2 l k)) (0 : EReal) * w2 (ix2 k j) := by
  pointwise [ref]

/-- Cut along the hidden units, the plain product at a row and a column is the sum of the devices' parts. -/
theorem OUT_eq_at (x : FVec Ideal S768x768 .f32) (w1 : FVec Ideal Cert.ReferenceIdeal.S768x12288 .f32) (w2 : FVec Ideal Cert.ReferenceIdeal.S12288x768 .f32)
    (hx : ∀ c, D.x c = x) (h1 : ∀ c, D.w1 c = Layout.block ⟨2, ![768, 1536]⟩ ⟨2, ![768, 12288]⟩ 1 8 c w1)
    (h2 : ∀ c, D.w2 c = Layout.block ⟨2, ![1536, 768]⟩ ⟨2, ![12288, 768]⟩ 0 8 c w2) (r j : Fin 768) :
    OUT D (ix2 r j) = ref x w1 w2 (ix2 r j) := by
  rw [OUT_at, ref_at]
  refine Eq.trans ?_ (Fin.sum_mul_add_fin 8 1536 _ (by decide))
  refine Finset.sum_congr rfl fun c _ => Finset.sum_congr rfl fun k _ => ?_
  have e1 : ∀ l, D.w1 c (ix2 l k) = w1 (ix2 l ⟨c.val * 1536 + k.val, by have : c.val < 8 := c.isLt; have := k.isLt; omega⟩) := fun l => by
    rw [h1]; shard_ext
  have e2 : D.w2 c (ix2 k j) = w2 (ix2 ⟨c.val * 1536 + k.val, by have : c.val < 8 := c.isLt; have := k.isLt; omega⟩ j) := by
    rw [h2]; shard_ext
  rw [e2, hx]; simp only [e1]
/-- and so everywhere. -/
theorem OUT_eq (x : FVec Ideal S768x768 .f32) (w1 : FVec Ideal Cert.ReferenceIdeal.S768x12288 .f32) (w2 : FVec Ideal Cert.ReferenceIdeal.S12288x768 .f32)
    (hx : ∀ c, D.x c = x) (h1 : ∀ c, D.w1 c = Layout.block ⟨2, ![768, 1536]⟩ ⟨2, ![768, 12288]⟩ 1 8 c w1)
    (h2 : ∀ c, D.w2 c = Layout.block ⟨2, ![1536, 768]⟩ ⟨2, ![12288, 768]⟩ 0 8 c w2) : OUT D = ref x w1 w2 := by
  funext i
  have e := OUT_eq_at D x w1 w2 hx h1 h2 (i 0) (i 1)
  rwa [ix2_eta] at e

end Cert.Mlp

end
-- ==== Proof.Final.lean ====
/-
  The arrays of the program when it has run, and the claims read off the run.
-/
module

public import proofs.«01_k».proof.Proof.Values
public import proofs.«01_k».proof.Defs
public import proofs.«01_k».proof.Proof.Gen.Kernel

@[expose] public section

set_option maxRecDepth 8000

noncomputable section

namespace Cert.Mlp

open Cert.KernelIdeal Cert.KernelIdeal.Gen
open Idealize.ShloMosaic
open Idealize.ShloMosaic.TcCoe
open Idealize.SL.Sem

section
variable {F : FTy → Type} [FloatOps F] (m : (ℓ : Loc nD τ sig) → Buf (Elt F) ℓ) (ρ : Dev nD → PrngReg)

/-! ## The windows are whole arrays -/

theorem x_eq (c : Dev nD) : (inp m).x c = m ((c : Thread nD τ).loc main_arg0) := by
  funext i
  refine congrArg (m ((c : Thread nD τ).loc main_arg0)) (show ((win0_0.blk (0 : Fin 1)).view.emb i) = i from ?_)
  funext a; apply Fin.ext
  match a with
  | ⟨0, _⟩ => blk_simp; rw [show win0_0.index (0 : Fin 1) 0 = 0 by decide +kernel]; omega
  | ⟨1, _⟩ => blk_simp; rw [show win0_0.index (0 : Fin 1) 1 = 0 by decide +kernel]; omega
theorem w1_eq (c : Dev nD) : (inp m).w1 c = m ((c : Thread nD τ).loc main_arg1) := by
  funext i
  refine congrArg (m ((c : Thread nD τ).loc main_arg1)) (show ((win0_1.blk (0 : Fin 1)).view.emb i) = i from ?_)
  funext a; apply Fin.ext
  match a with
  | ⟨0, _⟩ => blk_simp; rw [show win0_1.index (0 : Fin 1) 0 = 0 by decide +kernel]; omega
  | ⟨1, _⟩ => blk_simp; rw [show win0_1.index (0 : Fin 1) 1 = 0 by decide +kernel]; omega
theorem w2_eq (c : Dev nD) : (inp m).w2 c = m ((c : Thread nD τ).loc main_arg2) := by
  funext i
  refine congrArg (m ((c : Thread nD τ).loc main_arg2)) (show ((win0_2.blk (0 : Fin 1)).view.emb i) = i from ?_)
  funext a; apply Fin.ext
  match a with
  | ⟨0, _⟩ => blk_simp; rw [show win0_2.index (0 : Fin 1) 0 = 0 by decide +kernel]; omega
  | ⟨1, _⟩ => blk_simp; rw [show win0_2.index (0 : Fin 1) 1 = 0 by decide +kernel]; omega

/-- The output array ends holding the result. -/
theorem final_out (c : Dev nD) : finalA m ρ c (3 : Fin 4) = OUT (inp m) :=
  (dats m ρ 0 c).arrAt_eq_of_after_last (3 : Fin 4) t0_0 (by decide +kernel) _ fun j => rfl

/-- What the run leaves: the result, the arguments unchanged, every counter at zero. -/
theorem run_arrays : θ_run defs (onTc (τ := τ) (main (F := F))) ⟨m, fun _ => 0, ρ⟩ fun r =>
    (∀ c : Dev nD, r.2.mem ((c : Thread nD τ).loc main_v1) = OUT (inp m)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0 :=
  (θ_run defs _ _).mono (fun _ h => ⟨fun c => ⟨(h.1 c (3 : Fin 4)).trans (final_out m ρ c),
      (h.1 c (0 : Fin 4)).trans ((dats m ρ 0 c).arrAt_in (0 : Fin 4) rfl _),
      (h.1 c (1 : Fin 4)).trans ((dats m ρ 0 c).arrAt_in (1 : Fin 4) rfl _),
      (h.1 c (2 : Fin 4)).trans ((dats m ρ 0 c).arrAt_in (2 : Fin 4) rfl _)⟩, h.2⟩) (run_main m ρ)

/-- The same with the result dropped. -/
theorem run_frame : θ_run defs (onTc (τ := τ) (main (F := F))) ⟨m, fun _ => 0, ρ⟩ fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0 :=
  (θ_run defs _ _).mono (fun _ h => ⟨fun c => (h.1 c).2, h.2⟩) (run_arrays m ρ)

end

/-! ## The claims -/

/-- The kernel and its idealization are one text, so their bodies are one program, -/
theorem body_same : @Cert.Kernel.cc0_body Bits _ Cert.Kernel.Gen.facts = @Cert.KernelIdeal.cc0_body Bits _ Cert.KernelIdeal.Gen.facts := rfl
/-- and so are what their calls run, -/
theorem calls_same : @Cert.Kernel.defs₀ Bits _ Cert.Kernel.Gen.facts = @Cert.KernelIdeal.defs₀ Bits _ Cert.KernelIdeal.Gen.facts := by
  refine congrArg Defs.onTc (funext fun l => funext fun a => ?_)
  match l, a with
  | ⟨0, _⟩, (t, s) => rfl
/-- with the pipeline around them. -/
theorem defs_same : @Cert.Kernel.defs Bits _ Cert.Kernel.Gen.facts = @Cert.KernelIdeal.defs Bits _ Cert.KernelIdeal.Gen.facts :=
  congrArg (Pipeline.defs (Cert.KernelIdeal.pcfgs (F := Bits))) calls_same

/-- The kernel's frame on bit patterns. -/
theorem frame_kernel : Cert.quiescent_Kernel (hKernel := Cert.Kernel.Gen.facts) := by
  intro m ρ _
  rw [defs_same]
  exact run_frame (F := Bits) m ρ

/-- Its frame over the extended reals. -/
theorem frame_ideal : Cert.quiescent_KernelIdeal := fun m ρ _ => run_frame (F := Ideal) m ρ

/-- The reference's frame: it is a list of host operations and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device ends with the reference's result. -/
theorem algebraic : Cert.algebraic_KernelIdeal_ReferenceIdeal := by
  intro m ρ m' ρ' _ h
  refine ⟨ref (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun _ hr c => ⟨(hr.1 c).1.trans ?_, (hr.1 c).2⟩) (run_arrays (F := Ideal) m ρ)
    exact OUT_eq (inp m) _ _ _ (fun c => (x_eq m c).trans (h c).1) (fun c => (w1_eq m c).trans (h c).2.1) (fun c => (w2_eq m c).trans (h c).2.2)
  · exact (θ_run Cert.ReferenceIdeal.defs _ _).mono (fun _ hr => hr 0) (Cert.ReferenceIdeal.Value.run (F := Ideal) m' ρ')

end Cert.Mlp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Mlp.frame_kernel, Cert.Mlp.frame_ideal, Cert.Mlp.frame_reference, trivial, Cert.Mlp.algebraic⟩

end Cert.Proof

end
